-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_differential_inputs_finite [hPre_differential_inputs_finite : Cert.Pre_differential_inputs_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_differential_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_differential_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_differential_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_differential_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_differential_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.1 = (fun _ => 1#1)
    ∧ (Cert.Pre_differential_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_differential_inputs_finite [hPre_differential_inputs_finite : Cert.Pre_differential_inputs_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_differential_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_differential_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_differential_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_differential_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_differential_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.1 = (fun _ => 1#1)
    ∧ (Cert.Pre_differential_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_differential_inputs_finite [hKernel6Ideal : Cert.Kernel6Ideal.Facts] [hPre_differential_inputs_finite : Cert.Pre_differential_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_differential_inputs_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_differential_inputs_finite [hReference6Ideal : Cert.Reference6Ideal.Facts] [hPre_differential_inputs_finite : Cert.Pre_differential_inputs_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_differential_inputs_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_differential_inputs_finite [hKernel6Ideal : Cert.Kernel6Ideal.Facts] [hReference6Ideal : Cert.Reference6Ideal.Facts] [hPre_differential_inputs_finite : Cert.Pre_differential_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_differential_inputs_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_queries_and_keys_finite : Cert.Pre_queries_and_keys_finite.Facts) (hPre_differential_inputs_finite : Cert.Pre_differential_inputs_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_differential_inputs_finite (hKernel6Ideal := hKernel6Ideal) (hPre_differential_inputs_finite := hPre_differential_inputs_finite)
    ∧ quiescent_Reference6Ideal (hReference6Ideal := hReference6Ideal)
    ∧ quiescent_Reference6Ideal_pre_differential_inputs_finite (hReference6Ideal := hReference6Ideal) (hPre_differential_inputs_finite := hPre_differential_inputs_finite)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_differential_inputs_finite (hKernel6Ideal := hKernel6Ideal) (hReference6Ideal := hReference6Ideal) (hPre_differential_inputs_finite := hPre_differential_inputs_finite)
-- ==== Pre_differential_inputs_finite.lean ====
abbrev S16x2048x4x2x64 : Shape := ⟨5, ![16, 2048, 4, 2, 64]⟩
abbrev S16x2048x4x128 : Shape := ⟨4, ![16, 2048, 4, 128]⟩
abbrev S16x256x4x2x64 : Shape := ⟨5, ![16, 256, 4, 2, 64]⟩
abbrev S16x256x4x128 : Shape := ⟨4, ![16, 256, 4, 128]⟩
abbrev S4x64 : Shape := ⟨2, ![4, 64]⟩
abbrev S128 : Shape := ⟨1, ![128]⟩
abbrev S_ : Shape := ⟨0, ![]⟩

class Facts : Prop where
  bcast_S_S16x2048x4x2x64 : S_.BroadcastsInDim S16x2048x4x2x64 (![] : Fin 0 → Fin S16x2048x4x2x64.rank)
  bcast_S_S16x2048x4x128 : S_.BroadcastsInDim S16x2048x4x128 (![] : Fin 0 → Fin S16x2048x4x128.rank)
  bcast_S_S16x256x4x2x64 : S_.BroadcastsInDim S16x256x4x2x64 (![] : Fin 0 → Fin S16x256x4x2x64.rank)
  bcast_S_S16x256x4x128 : S_.BroadcastsInDim S16x256x4x128 (![] : Fin 0 → Fin S16x256x4x128.rank)
  bcast_S_S4x64 : S_.BroadcastsInDim S4x64 (![] : Fin 0 → Fin S4x64.rank)

variable [Facts]

def fn {F : FTy → Type} [FloatOps F] (main_arg0 : FVec F S16x2048x4x2x64 .f32) (main_arg1 : FVec F S16x2048x4x2x64 .f32) (main_arg2 : FVec F S16x2048x4x128 .f32) (main_arg3 : FVec F S16x256x4x2x64 .f32) (main_arg4 : FVec F S16x256x4x128 .f32) (main_arg5 : FVec F S4x64 .f32) (main_arg6 : FVec F S128 .f32) : IVec S16x2048x4x2x64 1 × IVec S16x2048x4x2x64 1 × IVec S16x2048x4x128 1 × IVec S16x256x4x2x64 1 × IVec S16x256x4x128 1 × IVec S4x64 1 :=
  let main_v0 : FVec F S16x2048x4x2x64 .f32 := Host.absf main_arg0
  let main_cst : FVec F S_ .f32 := constant S_ .f32 0x7F800000#32
  let main_v1 : FVec F S16x2048x4x2x64 .f32 := broadcastInDim S16x2048x4x2x64 ![] bcast_S_S16x2048x4x2x64 main_cst
  let main_v2 : IVec S16x2048x4x2x64 1 := cmpf .olt main_v0 main_v1
  let main_v3 : FVec F S16x2048x4x2x64 .f32 := Host.absf main_arg1
  let main_cst_0 : FVec F S_ .f32 := constant S_ .f32 0x7F800000#32
  let main_v4 : FVec F S16x2048x4x2x64 .f32 := broadcastInDim S16x2048x4x2x64 ![] bcast_S_S16x2048x4x2x64 main_cst_0
  let main_v5 : IVec S16x2048x4x2x64 1 := cmpf .olt main_v3 main_v4
  let main_v6 : FVec F S16x2048x4x128 .f32 := Host.absf main_arg2
  let main_cst_1 : FVec F S_ .f32 := constant S_ .f32 0x7F800000#32
  let main_v7 : FVec F S16x2048x4x128 .f32 := broadcastInDim S16x2048x4x128 ![] bcast_S_S16x2048x4x128 main_cst_1
  let main_v8 : IVec S16x2048x4x128 1 := cmpf .olt main_v6 main_v7
  let main_v9 : FVec F S16x256x4x2x64 .f32 := Host.absf main_arg3
  let main_cst_2 : FVec F S_ .f32 := constant S_ .f32 0x7F800000#32
  let main_v10 : FVec F S16x256x4x2x64 .f32 := broadcastInDim S16x256x4x2x64 ![] bcast_S_S16x256x4x2x64 main_cst_2
  let main_v11 : IVec S16x256x4x2x64 1 := cmpf .olt main_v9 main_v10
  let main_v12 : FVec F S16x256x4x128 .f32 := Host.absf main_arg4
  let main_cst_3 : FVec F S_ .f32 := constant S_ .f32 0x7F800000#32
  let main_v13 : FVec F S16x256x4x128 .f32 := broadcastInDim S16x256x4x128 ![] bcast_S_S16x256x4x128 main_cst_3
  let main_v14 : IVec S16x256x4x128 1 := cmpf .olt main_v12 main_v13
  let main_v15 : FVec F S4x64 .f32 := Host.absf main_arg5
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  (main_v2, main_v5, main_v8, main_v11, main_v14, main_v17)
-- ==== Pre_queries_and_keys_finite.lean ====
abbrev S16x2048x8x96 : Shape := ⟨4, ![16, 2048, 8, 96]⟩
abbrev S16x2048x8x64 : Shape := ⟨4, ![16, 2048, 8, 64]⟩
abbrev S16x2048x32 : Shape := ⟨3, ![16, 2048, 32]⟩
abbrev S16x256x8x64 : Shape := ⟨4, ![16, 256, 8, 64]⟩
abbrev S16x256x32 : Shape := ⟨3, ![16, 256, 32]⟩
abbrev S_ : Shape := ⟨0, ![]⟩

class Facts : Prop where
  bcast_S_S16x2048x8x96 : S_.BroadcastsInDim S16x2048x8x96 (![] : Fin 0 → Fin S16x2048x8x96.rank)
  bcast_S_S16x2048x8x64 : S_.BroadcastsInDim S16x2048x8x64 (![] : Fin 0 → Fin S16x2048x8x64.rank)
  bcast_S_S16x2048x32 : S_.BroadcastsInDim S16x2048x32 (![] : Fin 0 → Fin S16x2048x32.rank)
  bcast_S_S16x256x8x64 : S_.BroadcastsInDim S16x256x8x64 (![] : Fin 0 → Fin S16x256x8x64.rank)
  bcast_S_S16x256x32 : S_.BroadcastsInDim S16x256x32 (![] : Fin 0 → Fin S16x256x32.rank)

variable [Facts]

def fn {F : FTy → Type} [FloatOps F] (main_arg0 : FVec F S16x2048x8x96 .f32) (main_arg1 : FVec F S16x2048x8x64 .f32) (main_arg2 : FVec F S16x2048x32 .f32) (main_arg3 : FVec F S16x2048x8x64 .f32) (main_arg4 : FVec F S16x256x8x64 .f32) (main_arg5 : FVec F S16x256x32 .f32) (main_arg6 : FVec F S16x256x8x64 .f32) : IVec S16x2048x8x96 1 × IVec S16x2048x8x64 1 × IVec S16x2048x32 1 × IVec S16x256x8x64 1 × IVec S16x256x32 1 :=
  let main_v0 : FVec F S16x2048x8x96 .f32 := Host.absf main_arg0
  let main_cst : FVec F S_ .f32 := constant S_ .f32 0x7F800000#32
  let main_v1 : FVec F S16x2048x8x96 .f32 := broadcastInDim S16x2048x8x96 ![] bcast_S_S16x2048x8x96 main_cst
  let main_v2 : IVec S16x2048x8x96 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : FVec F S16x2048x32 .f32 := Host.absf main_arg2
  let main_cst_1 : FVec F S_ .f32 := constant S_ .f32 0x7F800000#32
  let main_v7 : FVec F S16x2048x32 .f32 := broadcastInDim S16x2048x32 ![] bcast_S_S16x2048x32 main_cst_1
  let main_v8 : IVec S16x2048x32 1 := cmpf .olt main_v6 main_v7
  let main_v9 : FVec F S16x256x8x64 .f32 := Host.absf main_arg4
  let main_cst_2 : FVec F S_ .f32 := constant S_ .f32 0x7F800000#32
  let main_v10 : FVec F S16x256x8x64 .f32 := broadcastInDim S16x256x8x64 ![] bcast_S_S16x256x8x64 main_cst_2
  let main_v11 : IVec S16x256x8x64 1 := cmpf .olt main_v9 main_v10
  let main_v12 : FVec F S16x256x32 .f32 := Host.absf main_arg5
  let main_cst_3 : FVec F S_ .f32 := constant S_ .f32 0x7F800000#32
  let main_v13 : FVec F S16x256x32 .f32 := broadcastInDim S16x256x32 ![] bcast_S_S16x256x32 main_cst_3
  let main_v14 : IVec S16x256x32 1 := cmpf .olt main_v12 main_v13
  (main_v2, main_v5, main_v8, main_v11, main_v14)
-- ==== Kernel.lean ====
abbrev S16x2048x8x96 : Shape := ⟨4, ![16, 2048, 8, 96]⟩
abbrev S16x2048x8x64 : Shape := ⟨4, ![16, 2048, 8, 64]⟩
abbrev S16x2048x32 : Shape := ⟨3, ![16, 2048, 32]⟩
abbrev S16x256x8x64 : Shape := ⟨4, ![16, 256, 8, 64]⟩
abbrev S16x256x32 : Shape := ⟨3, ![16, 256, 32]⟩
abbrev S_ : Shape := ⟨0, ![]⟩
abbrev S16x2048x8x32 : Shape := ⟨4, ![16, 2048, 8, 32]⟩
abbrev S16x2048x8x128 : Shape := ⟨4, ![16, 2048, 8, 128]⟩
abbrev S16x8x128x2048 : Shape := ⟨4, ![16, 8, 128, 2048]⟩
abbrev S16x1024x2048 : Shape := ⟨3, ![16, 1024, 2048]⟩
abbrev S16x2048x1x32 : Shape := ⟨4, ![16, 2048, 1, 32]⟩
abbrev S16x2048x1024 : Shape := ⟨3, ![16, 2048, 1024]⟩
abbrev S16x2048x8x16 : Shape := ⟨4, ![16, 2048, 8, 16]⟩
abbrev S16x2048x8x80 : Shape := ⟨4, ![16, 2048, 8, 80]⟩
abbrev S16x8x80x2048 : Shape := ⟨4, ![16, 8, 80, 2048]⟩
abbrev S16x640x2048 : Shape := ⟨3, ![16, 640, 2048]⟩
abbrev S16x256x1x32 : Shape := ⟨4, ![16, 256, 1, 32]⟩
abbrev S16x256x8x32 : Shape := ⟨4, ![16, 256, 8, 32]⟩
abbrev S16x256x8x128 : Shape := ⟨4, ![16, 256, 8, 128]⟩
abbrev S16x256x1024 : Shape := ⟨3, ![16, 256, 1024]⟩
abbrev S16x256x8x16 : Shape := ⟨4, ![16, 256, 8, 16]⟩
abbrev S16x256x8x80 : Shape := ⟨4, ![16, 256, 8, 80]⟩
abbrev S16x8x80x256 : Shape := ⟨4, ![16, 8, 80, 256]⟩
abbrev S16x640x256 : Shape := ⟨3, ![16, 640, 256]⟩
abbrev S16x2048x512 : Shape := ⟨3, ![16, 2048, 512]⟩
abbrev S1x1024x1024 : Shape := ⟨3, ![1, 1024, 1024]⟩
abbrev S1x2048x1024 : Shape := ⟨3, ![1, 2048, 1024]⟩
abbrev S1x256x1024 : Shape := ⟨3, ![1, 256, 1024]⟩
abbrev S1x640x2048 : Shape := ⟨3, ![1, 640, 2048]⟩
abbrev S1x640x256 : Shape := ⟨3, ![1, 640, 256]⟩
abbrev S1x1024x512 : Shape := ⟨3, ![1, 1024, 512]⟩
abbrev S2x2304x512 : Shape := ⟨3, ![2, 2304, 512]⟩
abbrev S1024x1024 : Shape := ⟨2, ![1024, 1024]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S1x80x256 : Shape := ⟨3, ![1, 80, 256]⟩
abbrev S80x256 : Shape := ⟨2, ![80, 256]⟩
abbrev S80x512 : Shape := ⟨2, ![80, 512]⟩
abbrev S64x512 : Shape := ⟨2, ![64, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 47
  | .vmem => 14
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x64, .f32⟩
  | .hbm, ⟨2, _⟩ => ⟨S16x2048x32, .f32⟩
  | .hbm, ⟨3, _⟩ => ⟨S16x2048x8x64, .f32⟩
  | .hbm, ⟨4, _⟩ => ⟨S16x256x8x64, .f32⟩
  | .hbm, ⟨5, _⟩ => ⟨S16x256x32, .f32⟩
  | .hbm, ⟨6, _⟩ => ⟨S16x256x8x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x2048x8x32, .f32⟩
  | .hbm, ⟨14, _⟩ => ⟨S16x2048x8x128, .f32⟩
  | .hbm, ⟨15, _⟩ => ⟨S16x2048x8x128, .f32⟩
  | .hbm, ⟨16, _⟩ => ⟨S16x2048x8x128, .f32⟩
  | .hbm, ⟨17, _⟩ => ⟨S16x8x128x2048, .f32⟩
  | .hbm, ⟨18, _⟩ => ⟨S16x1024x2048, .f32⟩
  | .hbm, ⟨19, _⟩ => ⟨S16x1024x2048, .bf16⟩
  | .hbm, ⟨20, _⟩ => ⟨S16x2048x1x32, .f32⟩
  | .hbm, ⟨21, _⟩ => ⟨S16x2048x8x32, .f32⟩
  | .hbm, ⟨22, _⟩ => ⟨S_, .f32⟩
  | .hbm, ⟨23, _⟩ => ⟨S16x2048x8x32, .f32⟩
  | .hbm, ⟨24, _⟩ => ⟨S16x2048x8x128, .f32⟩
  | .hbm, ⟨25, _⟩ => ⟨S16x2048x1024, .f32⟩
  | .hbm, ⟨26, _⟩ => ⟨S16x2048x1024, .bf16⟩
  | .hbm, ⟨27, _⟩ => ⟨S_, .f32⟩
  | .hbm, ⟨28, _⟩ => ⟨S16x2048x8x16, .f32⟩
  | .hbm, ⟨29, _⟩ => ⟨S16x2048x8x80, .f32⟩
  | .hbm, ⟨30, _⟩ => ⟨S16x8x80x2048, .f32⟩
  | .hbm, ⟨31, _⟩ => ⟨S16x640x2048, .f32⟩
  | .hbm, ⟨32, _⟩ => ⟨S16x640x2048, .bf16⟩
  | .hbm, ⟨33, _⟩ => ⟨S16x256x1x32, .f32⟩
  | .hbm, ⟨34, _⟩ => ⟨S16x256x8x32, .f32⟩
  | .hbm, ⟨35, _⟩ => ⟨S_, .f32⟩
  | .hbm, ⟨36, _⟩ => ⟨S16x256x8x32, .f32⟩
  | .hbm, ⟨37, _⟩ => ⟨S16x256x8x128, .f32⟩
  | .hbm, ⟨38, _⟩ => ⟨S16x256x1024, .f32⟩
  | .hbm, ⟨39, _⟩ => ⟨S16x256x1024, .bf16⟩
  | .hbm, ⟨40, _⟩ => ⟨S_, .f32⟩
  | .hbm, ⟨41, _⟩ => ⟨S16x256x8x16, .f32⟩
  | .hbm, ⟨42, _⟩ => ⟨S16x256x8x80, .f32⟩
  | .hbm, ⟨43, _⟩ => ⟨S16x8x80x256, .f32⟩
  | .hbm, ⟨44, _⟩ => ⟨S16x640x256, .f32⟩
  | .hbm, ⟨45, _⟩ => ⟨S16x640x256, .bf16⟩
  | .hbm, ⟨46, _⟩ => ⟨S16x2048x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x640x2048, .bf16⟩
  | .local _ .vmem, ⟨7, _⟩ => ⟨S1x640x2048, .bf16⟩
  | .local _ .vmem, ⟨8, _⟩ => ⟨S1x640x256, .bf16⟩
  | .local _ .vmem, ⟨9, _⟩ => ⟨S1x640x256, .bf16⟩
  | .local _ .vmem, ⟨10, _⟩ => ⟨S1x1024x512, .bf16⟩
  | .local _ .vmem, ⟨11, _⟩ => ⟨S1x1024x512, .bf16⟩
  | .local _ .vmem, ⟨12, _⟩ => ⟨S2x2304x512, .f32⟩
  | .local _ .vmem, ⟨13, _⟩ => ⟨S2x2304x512, .bf16⟩
  | _, _ => ⟨S16x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x8x96 : Shape := ⟨4, ![16, 2048, 8, 96]⟩
abbrev S16x2048x8x64 : Shape := ⟨4, ![16, 2048, 8, 64]⟩
abbrev S16x2048x32 : Shape := ⟨3, ![16, 2048, 32]⟩
abbrev S16x256x8x64 : Shape := ⟨4, ![16, 256, 8, 64]⟩
abbrev S16x256x32 : Shape := ⟨3, ![16, 256, 32]⟩
abbrev S16x2304x8x64 : Shape := ⟨4, ![16, 2304, 8, 64]⟩
abbrev S16x2304x32 : Shape := ⟨3, ![16, 2304, 32]⟩
abbrev S16x2048x8x32 : Shape := ⟨4, ![16, 2048, 8, 32]⟩
abbrev S16x8x2048x2304 : Shape := ⟨4, ![16, 8, 2048, 2304]⟩
abbrev S16x2304x2048x8 : Shape := ⟨4, ![16, 2304, 2048, 8]⟩
abbrev S_ : Shape := ⟨0, ![]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x512 : Shape := ⟨3, ![16, 2048, 512]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x64, .f32⟩
  | .hbm, ⟨2, _⟩ => ⟨S16x2048x32, .f32⟩
  | .hbm, ⟨3, _⟩ => ⟨S16x2048x8x64, .f32⟩
  | .hbm, ⟨4, _⟩ => ⟨S16x256x8x64, .f32⟩
  | .hbm, ⟨5, _⟩ => ⟨S16x256x32, .f32⟩
  | .hbm, ⟨6, _⟩ => ⟨S16x256x8x64, .f32⟩
  | .hbm, ⟨7, _⟩ => ⟨S16x2304x8x64, .f32⟩
  | .hbm, ⟨8, _⟩ => ⟨S16x2304x32, .f32⟩
  | .hbm, ⟨9, _⟩ => ⟨S16x2304x8x64, .f32⟩
  | .hbm, ⟨10, _⟩ => ⟨S16x2048x8x64, .f32⟩
  | .hbm, ⟨11, _⟩ => ⟨S16x2048x8x32, .f32⟩
  | .hbm, ⟨12, _⟩ => ⟨S16x8x2048x2304, .f32⟩
  | .hbm, ⟨13, _⟩ => ⟨S16x2304x2048x8, .f32⟩
  | .hbm, ⟨14, _⟩ => ⟨S16x8x2048x2304, .f32⟩
  | .hbm, ⟨15, _⟩ => ⟨S16x8x2048x2304, .f32⟩
  | .hbm, ⟨16, _⟩ => ⟨S_, .f32⟩
  | .hbm, ⟨17, _⟩ => ⟨S_, .f32⟩
  | .hbm, ⟨18, _⟩ => ⟨S16x8x2048x2304, .f32⟩
  | .hbm, ⟨19, _⟩ => ⟨S16x8x2048x2304, .f32⟩
  | .hbm, ⟨20, _⟩ => ⟨S_, .f32⟩
  | .hbm, ⟨21, _⟩ => ⟨S16x8x2048, .f32⟩
  | .hbm, ⟨22, _⟩ => ⟨S_, .f32⟩
  | .hbm, ⟨23, _⟩ => ⟨S16x8x2048, .f32⟩
  | .hbm, ⟨24, _⟩ => ⟨S16x8x2048, .f32⟩
  | .hbm, ⟨25, _⟩ => ⟨S16x8x2048x1, .f32⟩
  | .hbm, ⟨26, _⟩ => ⟨S16x8x2048x2304, .f32⟩
  | .hbm, ⟨27, _⟩ => ⟨S16x8x2048x2304, .f32⟩
  | .hbm, ⟨28, _⟩ => ⟨S16x8x2048x2304, .f32⟩
  | .hbm, ⟨29, _⟩ => ⟨S_, .f32⟩
  | .hbm, ⟨30, _⟩ => ⟨S16x8x2048, .f32⟩
  | .hbm, ⟨31, _⟩ => ⟨S16x8x2048x1, .f32⟩
  | .hbm, ⟨32, _⟩ => ⟨S16x8x2048x2304, .f32⟩
  | .hbm, ⟨33, _⟩ => ⟨S16x8x2048x2304, .f32⟩
  | .hbm, ⟨34, _⟩ => ⟨S16x8x64x2048, .f32⟩
  | .hbm, ⟨35, _⟩ => ⟨S16x2048x8x64, .f32⟩
  | .hbm, ⟨36, _⟩ => ⟨S16x2048x512, .f32⟩
  | .hbm, ⟨37, _⟩ => ⟨S16x2048x512, .bf16⟩
  | _, _ => ⟨S16x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S24x9x1024 : Shape := ⟨3, ![24, 9, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x1024x512 : Shape := ⟨3, ![1, 1024, 512]⟩
abbrev S1x9x1024 : Shape := ⟨3, ![1, 9, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x512 : Shape := ⟨2, ![1024, 512]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 9
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S24x9x1024, .f32⟩
  | .hbm, ⟨4, _⟩ => ⟨S1x1024x1024, .bf16⟩
  | .hbm, ⟨5, _⟩ => ⟨S2x1024x2816, .bf16⟩
  | .hbm, ⟨6, _⟩ => ⟨S2x1024x2816, .bf16⟩
  | .hbm, ⟨7, _⟩ => ⟨S2x2816x1024, .bf16⟩
  | .hbm, ⟨8, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x9x1024, .f32⟩
  | .local _ .vmem, ⟨7, _⟩ => ⟨S1x9x1024, .f32⟩
  | .local _ .vmem, ⟨8, _⟩ => ⟨S1x1024x1024, .bf16⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16x2048x1024 : Shape := ⟨3, ![16, 2048, 1024]⟩
abbrev S16x2048x512 : Shape := ⟨3, ![16, 2048, 512]⟩
abbrev S24x9x1024 : Shape := ⟨3, ![24, 9, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S16x1x1024 : Shape := ⟨3, ![16, 1, 1024]⟩
abbrev S16x1024 : Shape := ⟨2, ![16, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S24x9x1024, .f32⟩
  | .hbm, ⟨4, _⟩ => ⟨S1x1024x1024, .bf16⟩
  | .hbm, ⟨5, _⟩ => ⟨S2x1024x2816, .bf16⟩
  | .hbm, ⟨6, _⟩ => ⟨S2x1024x2816, .bf16⟩
  | .hbm, ⟨7, _⟩ => ⟨S2x2816x1024, .bf16⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S16x1x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x1024, .f32⟩
  | .hbm, ⟨19, _⟩ => ⟨S16x1x1024, .f32⟩
  | .hbm, ⟨20, _⟩ => ⟨S16x1x1024, .f32⟩
  | .hbm, ⟨21, _⟩ => ⟨S16x1024, .f32⟩
  | .hbm, ⟨22, _⟩ => ⟨S16x1x1024, .f32⟩
  | .hbm, ⟨23, _⟩ => ⟨S16x1x1024, .f32⟩
  | .hbm, ⟨24, _⟩ => ⟨S16x1024, .f32⟩
  | .hbm, ⟨25, _⟩ => ⟨S16x1x1024, .f32⟩
  | .hbm, ⟨26, _⟩ => ⟨S16x1x1024, .f32⟩
  | .hbm, ⟨27, _⟩ => ⟨S16x1024, .f32⟩
  | .hbm, ⟨28, _⟩ => ⟨S16x1x1024, .f32⟩
  | .hbm, ⟨29, _⟩ => ⟨S16x1x1024, .f32⟩
  | .hbm, ⟨30, _⟩ => ⟨S16x1024, .f32⟩
  | .hbm, ⟨31, _⟩ => ⟨S16x1x1024, .f32⟩
  | .hbm, ⟨32, _⟩ => ⟨S16x1x1024, .f32⟩
  | .hbm, ⟨33, _⟩ => ⟨S16x1024, .f32⟩
  | .hbm, ⟨34, _⟩ => ⟨S16x1x1024, .f32⟩
  | .hbm, ⟨35, _⟩ => ⟨S16x2048x512, .f32⟩
  | .hbm, ⟨36, _⟩ => ⟨S16x2048x512, .f32⟩
  | .hbm, ⟨37, _⟩ => ⟨S16x2048x1024, .f32⟩
  | .hbm, ⟨38, _⟩ => ⟨S1024x1024, .bf16⟩
  | .hbm, ⟨39, _⟩ => ⟨S1024x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x1x1024, .f32⟩
  | .hbm, ⟨46, _⟩ => ⟨S16x1x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x1x1024, .f32⟩
  | .hbm, ⟨62, _⟩ => ⟨S16x1x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S1x1024x2816, .bf16⟩
  | .hbm, ⟨68, _⟩ => ⟨S1024x2816, .bf16⟩
  | .hbm, ⟨69, _⟩ => ⟨S1024x2816, .f32⟩
  | .hbm, ⟨70, _⟩ => ⟨S1x1024x2816, .bf16⟩
  | .hbm, ⟨71, _⟩ => ⟨S1024x2816, .bf16⟩
  | .hbm, ⟨72, _⟩ => ⟨S1024x2816, .f32⟩
  | .hbm, ⟨73, _⟩ => ⟨S1x2816x1024, .bf16⟩
  | .hbm, ⟨74, _⟩ => ⟨S2816x1024, .bf16⟩
  | .hbm, ⟨75, _⟩ => ⟨S2816x1024, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S_, .f32⟩
  | .hbm, ⟨80, _⟩ => ⟨S16x2048x2816, .f32⟩
  | .hbm, ⟨81, _⟩ => ⟨S16x2048x2816, .f32⟩
  | .hbm, ⟨82, _⟩ => ⟨S_, .f32⟩
  | .hbm, ⟨83, _⟩ => ⟨S16x2048x2816, .f32⟩
  | .hbm, ⟨84, _⟩ => ⟨S16x2048x2816, .f32⟩
  | .hbm, ⟨85, _⟩ => ⟨S16x2048x2816, .f32⟩
  | .hbm, ⟨86, _⟩ => ⟨S16x2048x2816, .f32⟩
  | .hbm, ⟨87, _⟩ => ⟨S16x2048x2816, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_cst_1 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel3.lean ====
abbrev S16x2048x1024 : Shape := ⟨3, ![16, 2048, 1024]⟩
abbrev S24x9x1024 : Shape := ⟨3, ![24, 9, 1024]⟩
abbrev S2x1024x2816 : Shape := ⟨3, ![2, 1024, 2816]⟩
abbrev S2x2816x1024 : Shape := ⟨3, ![2, 2816, 1024]⟩
abbrev S1x1024x1024 : Shape := ⟨3, ![1, 1024, 1024]⟩
abbrev S1x9x1024 : Shape := ⟨3, ![1, 9, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x2048x1024 : Shape := ⟨3, ![16, 2048, 1024]⟩
abbrev S24x9x1024 : Shape := ⟨3, ![24, 9, 1024]⟩
abbrev S2x1024x2816 : Shape := ⟨3, ![2, 1024, 2816]⟩
abbrev S2x2816x1024 : Shape := ⟨3, ![2, 2816, 1024]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S16x1x1024, .f32⟩
  | .hbm, ⟨6, _⟩ => ⟨S16x1024, .f32⟩
  | .hbm, ⟨7, _⟩ => ⟨S16x1x1024, .f32⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S16x1x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x1024, .f32⟩
  | .hbm, ⟨19, _⟩ => ⟨S16x1x1024, .f32⟩
  | .hbm, ⟨20, _⟩ => ⟨S16x1x1024, .f32⟩
  | .hbm, ⟨21, _⟩ => ⟨S16x1024, .f32⟩
  | .hbm, ⟨22, _⟩ => ⟨S16x1x1024, .f32⟩
  | .hbm, ⟨23, _⟩ => ⟨S16x1x1024, .f32⟩
  | .hbm, ⟨24, _⟩ => ⟨S16x1024, .f32⟩
  | .hbm, ⟨25, _⟩ => ⟨S16x1x1024, .f32⟩
  | .hbm, ⟨26, _⟩ => ⟨S16x1x1024, .f32⟩
  | .hbm, ⟨27, _⟩ => ⟨S16x1024, .f32⟩
  | .hbm, ⟨28, _⟩ => ⟨S16x1x1024, .f32⟩
  | .hbm, ⟨29, _⟩ => ⟨S16x1x1024, .f32⟩
  | .hbm, ⟨30, _⟩ => ⟨S16x1024, .f32⟩
  | .hbm, ⟨31, _⟩ => ⟨S16x1x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S1x1024x2816, .bf16⟩
  | .hbm, ⟨56, _⟩ => ⟨S1024x2816, .bf16⟩
  | .hbm, ⟨57, _⟩ => ⟨S1024x2816, .f32⟩
  | .hbm, ⟨58, _⟩ => ⟨S1x1024x2816, .bf16⟩
  | .hbm, ⟨59, _⟩ => ⟨S1024x2816, .bf16⟩
  | .hbm, ⟨60, _⟩ => ⟨S1024x2816, .f32⟩
  | .hbm, ⟨61, _⟩ => ⟨S1x2816x1024, .bf16⟩
  | .hbm, ⟨62, _⟩ => ⟨S2816x1024, .bf16⟩
  | .hbm, ⟨63, _⟩ => ⟨S2816x1024, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S_, .f32⟩
  | .hbm, ⟨68, _⟩ => ⟨S16x2048x2816, .f32⟩
  | .hbm, ⟨69, _⟩ => ⟨S16x2048x2816, .f32⟩
  | .hbm, ⟨70, _⟩ => ⟨S_, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x2816, .f32⟩
  | .hbm, ⟨75, _⟩ => ⟨S16x2048x2816, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel4.lean ====
abbrev S1x4096x1024 : Shape := ⟨3, ![1, 4096, 1024]⟩
abbrev S24x9x1024 : Shape := ⟨3, ![24, 9, 1024]⟩
abbrev S2x1024x2816 : Shape := ⟨3, ![2, 1024, 2816]⟩
abbrev S2x2816x1024 : Shape := ⟨3, ![2, 2816, 1024]⟩
abbrev S1x512x1024 : Shape := ⟨3, ![1, 512, 1024]⟩
abbrev S1x9x1024 : Shape := ⟨3, ![1, 9, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S24x9x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S1x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S1x4096x1024 : Shape := ⟨3, ![1, 4096, 1024]⟩
abbrev S24x9x1024 : Shape := ⟨3, ![24, 9, 1024]⟩
abbrev S2x1024x2816 : Shape := ⟨3, ![2, 1024, 2816]⟩
abbrev S2x2816x1024 : Shape := ⟨3, ![2, 2816, 1024]⟩
abbrev S1x1x1024 : Shape := ⟨3, ![1, 1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x4096x2816 : Shape := ⟨3, ![1, 4096, 2816]⟩

abbrev nBuf : Space → Nat
  | .hbm => 74
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S24x9x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S1x1x1024, .f32⟩
  | .hbm, ⟨6, _⟩ => ⟨S1024, .f32⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x4096x1024, .f32⟩
  | .hbm, ⟨27, _⟩ => ⟨S_, .f32⟩
  | .hbm, ⟨28, _⟩ => ⟨S1x4096, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S1x4096x1024, .f32⟩
  | .hbm, ⟨38, _⟩ => ⟨S1x4096x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x1024x2816, .bf16⟩
  | .hbm, ⟨49, _⟩ => ⟨S1024x2816, .bf16⟩
  | .hbm, ⟨50, _⟩ => ⟨S1024x2816, .f32⟩
  | .hbm, ⟨51, _⟩ => ⟨S1x1024x2816, .bf16⟩
  | .hbm, ⟨52, _⟩ => ⟨S1024x2816, .bf16⟩
  | .hbm, ⟨53, _⟩ => ⟨S1024x2816, .f32⟩
  | .hbm, ⟨54, _⟩ => ⟨S1x2816x1024, .bf16⟩
  | .hbm, ⟨55, _⟩ => ⟨S2816x1024, .bf16⟩
  | .hbm, ⟨56, _⟩ => ⟨S2816x1024, .f32⟩
  | .hbm, ⟨57, _⟩ => ⟨S1x4096x2816, .f32⟩
  | .hbm, ⟨58, _⟩ => ⟨S1x4096x2816, .f32⟩
  | .hbm, ⟨59, _⟩ => ⟨S1x4096x2816, .f32⟩
  | .hbm, ⟨60, _⟩ => ⟨S_, .f32⟩
  | .hbm, ⟨61, _⟩ => ⟨S1x4096x2816, .f32⟩
  | .hbm, ⟨62, _⟩ => ⟨S1x4096x2816, .f32⟩
  | .hbm, ⟨63, _⟩ => ⟨S_, .f32⟩
  | .hbm, ⟨64, _⟩ => ⟨S1x4096x2816, .f32⟩
  | .hbm, ⟨65, _⟩ => ⟨S1x4096x2816, .f32⟩
  | .hbm, ⟨66, _⟩ => ⟨S1x4096x2816, .f32⟩
  | .hbm, ⟨67, _⟩ => ⟨S1x4096x2816, .f32⟩
  | .hbm, ⟨68, _⟩ => ⟨S1x4096x2816, .f32⟩
  | .hbm, ⟨69, _⟩ => ⟨S1x4096x1024, .f32⟩
  | .hbm, ⟨70, _⟩ => ⟨S1x1x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x4096x512 : Shape := ⟨3, ![1, 4096, 512]⟩
abbrev S24x9x1024 : Shape := ⟨3, ![24, 9, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x512x1024 : Shape := ⟨3, ![1, 512, 1024]⟩
abbrev S1x512x512 : Shape := ⟨3, ![1, 512, 512]⟩
abbrev S1x9x1024 : Shape := ⟨3, ![1, 9, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S512x512 : Shape := ⟨2, ![512, 512]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 9
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .bf16⟩
  | .hbm, ⟨2, _⟩ => ⟨S1x4096x512, .bf16⟩
  | .hbm, ⟨3, _⟩ => ⟨S24x9x1024, .f32⟩
  | .hbm, ⟨4, _⟩ => ⟨S1x1024x1024, .bf16⟩
  | .hbm, ⟨5, _⟩ => ⟨S2x1024x2816, .bf16⟩
  | .hbm, ⟨6, _⟩ => ⟨S2x1024x2816, .bf16⟩
  | .hbm, ⟨7, _⟩ => ⟨S2x2816x1024, .bf16⟩
  | .hbm, ⟨8, _⟩ => ⟨S1x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x9x1024, .f32⟩
  | .local _ .vmem, ⟨7, _⟩ => ⟨S1x1024x1024, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S1x4096x1024 : Shape := ⟨3, ![1, 4096, 1024]⟩
abbrev S1x4096x512 : Shape := ⟨3, ![1, 4096, 512]⟩
abbrev S24x9x1024 : Shape := ⟨3, ![24, 9, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x1x1024 : Shape := ⟨3, ![1, 1, 1024]⟩
abbrev S1024 : Shape := ⟨1, ![1024]⟩
abbrev S1024x1024 : Shape := ⟨2, ![1024, 1024]⟩
abbrev S_ : Shape := ⟨0, ![]⟩
abbrev S1x4096 : Shape := ⟨2, ![1, 4096]⟩
abbrev S1x4096x1 : Shape := ⟨3, ![1, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x4096x2816 : Shape := ⟨3, ![1, 4096, 2816]⟩

abbrev nBuf : Space → Nat
  | .hbm => 87
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .bf16⟩
  | .hbm, ⟨2, _⟩ => ⟨S1x4096x512, .bf16⟩
  | .hbm, ⟨3, _⟩ => ⟨S24x9x1024, .f32⟩
  | .hbm, ⟨4, _⟩ => ⟨S1x1024x1024, .bf16⟩
  | .hbm, ⟨5, _⟩ => ⟨S2x1024x2816, .bf16⟩
  | .hbm, ⟨6, _⟩ => ⟨S2x1024x2816, .bf16⟩
  | .hbm, ⟨7, _⟩ => ⟨S2x2816x1024, .bf16⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1x1x1024, .f32⟩
  | .hbm, ⟨17, _⟩ => ⟨S1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S1x1x1024, .f32⟩
  | .hbm, ⟨23, _⟩ => ⟨S1024, .f32⟩
  | .hbm, ⟨24, _⟩ => ⟨S1x1x1024, .f32⟩
  | .hbm, ⟨25, _⟩ => ⟨S1024, .f32⟩
  | .hbm, ⟨26, _⟩ => ⟨S1x4096x512, .f32⟩
  | .hbm, ⟨27, _⟩ => ⟨S1x4096x512, .f32⟩
  | .hbm, ⟨28, _⟩ => ⟨S1x4096x1024, .f32⟩
  | .hbm, ⟨29, _⟩ => ⟨S1024x1024, .bf16⟩
  | .hbm, ⟨30, _⟩ => ⟨S1024x1024, .f32⟩
  | .hbm, ⟨31, _⟩ => ⟨S1x4096x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1x4096x1024, .f32⟩
  | .hbm, ⟨40, _⟩ => ⟨S_, .f32⟩
  | .hbm, ⟨41, _⟩ => ⟨S1x4096, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S1x4096x1, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S1x4096x1024, .f32⟩
  | .hbm, ⟨57, _⟩ => ⟨S1x4096x1024, .f32⟩
  | .hbm, ⟨58, _⟩ => ⟨S1x1x1024, .f32⟩
  | .hbm, ⟨59, _⟩ => ⟨S1x4096x1024, .f32⟩
  | .hbm, ⟨60, _⟩ => ⟨S1x4096x1024, .f32⟩
  | .hbm, ⟨61, _⟩ => ⟨S1x1024x2816, .bf16⟩
  | .hbm, ⟨62, _⟩ => ⟨S1024x2816, .bf16⟩
  | .hbm, ⟨63, _⟩ => ⟨S1024x2816, .f32⟩
  | .hbm, ⟨64, _⟩ => ⟨S1x1024x2816, .bf16⟩
  | .hbm, ⟨65, _⟩ => ⟨S1024x2816, .bf16⟩
  | .hbm, ⟨66, _⟩ => ⟨S1024x2816, .f32⟩
  | .hbm, ⟨67, _⟩ => ⟨S1x2816x1024, .bf16⟩
  | .hbm, ⟨68, _⟩ => ⟨S2816x1024, .bf16⟩
  | .hbm, ⟨69, _⟩ => ⟨S2816x1024, .f32⟩
  | .hbm, ⟨70, _⟩ => ⟨S1x4096x2816, .f32⟩
  | .hbm, ⟨71, _⟩ => ⟨S1x4096x2816, .f32⟩
  | .hbm, ⟨72, _⟩ => ⟨S1x4096x2816, .f32⟩
  | .hbm, ⟨73, _⟩ => ⟨S_, .f32⟩
  | .hbm, ⟨74, _⟩ => ⟨S1x4096x2816, .f32⟩
  | .hbm, ⟨75, _⟩ => ⟨S1x4096x2816, .f32⟩
  | .hbm, ⟨76, _⟩ => ⟨S_, .f32⟩
  | .hbm, ⟨77, _⟩ => ⟨S1x4096x2816, .f32⟩
  | .hbm, ⟨78, _⟩ => ⟨S1x4096x2816, .f32⟩
  | .hbm, ⟨79, _⟩ => ⟨S1x4096x2816, .f32⟩
  | .hbm, ⟨80, _⟩ => ⟨S1x4096x2816, .f32⟩
  | .hbm, ⟨81, _⟩ => ⟨S1x4096x2816, .f32⟩
  | .hbm, ⟨82, _⟩ => ⟨S1x4096x1024, .f32⟩
  | .hbm, ⟨83, _⟩ => ⟨S1x1x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel6.lean ====
abbrev S16x2048x4x2x64 : Shape := ⟨5, ![16, 2048, 4, 2, 64]⟩
abbrev S16x2048x4x128 : Shape := ⟨4, ![16, 2048, 4, 128]⟩
abbrev S16x256x4x2x64 : Shape := ⟨5, ![16, 256, 4, 2, 64]⟩
abbrev S16x256x4x128 : Shape := ⟨4, ![16, 256, 4, 128]⟩
abbrev S4x64 : Shape := ⟨2, ![4, 64]⟩
abbrev S128 : Shape := ⟨1, ![128]⟩
abbrev S_ : Shape := ⟨0, ![]⟩
abbrev S16x4x2x64x2048 : Shape := ⟨5, ![16, 4, 2, 64, 2048]⟩
abbrev S16x512x2048 : Shape := ⟨3, ![16, 512, 2048]⟩
abbrev S128x1 : Shape := ⟨2, ![128, 1]⟩
abbrev S16x2048x512 : Shape := ⟨3, ![16, 2048, 512]⟩
abbrev S16x2048x4x16 : Shape := ⟨4, ![16, 2048, 4, 16]⟩
abbrev S16x2048x4x144 : Shape := ⟨4, ![16, 2048, 4, 144]⟩
abbrev S16x4x144x2048 : Shape := ⟨4, ![16, 4, 144, 2048]⟩
abbrev S16x576x2048 : Shape := ⟨3, ![16, 576, 2048]⟩
abbrev S16x256x512 : Shape := ⟨3, ![16, 256, 512]⟩
abbrev S16x256x4x16 : Shape := ⟨4, ![16, 256, 4, 16]⟩
abbrev S16x256x4x144 : Shape := ⟨4, ![16, 256, 4, 144]⟩
abbrev S16x4x144x256 : Shape := ⟨4, ![16, 4, 144, 256]⟩
abbrev S16x576x256 : Shape := ⟨3, ![16, 576, 256]⟩
abbrev S1x512x1024 : Shape := ⟨3, ![1, 512, 1024]⟩
abbrev S1x2048x512 : Shape := ⟨3, ![1, 2048, 512]⟩
abbrev S1x256x512 : Shape := ⟨3, ![1, 256, 512]⟩
abbrev S1x576x2048 : Shape := ⟨3, ![1, 576, 2048]⟩
abbrev S1x576x256 : Shape := ⟨3, ![1, 576, 256]⟩
abbrev S1x1024x512 : Shape := ⟨3, ![1, 1024, 512]⟩
abbrev S2x2304x512 : Shape := ⟨3, ![2, 2304, 512]⟩
abbrev S512x1024 : Shape := ⟨2, ![512, 1024]⟩
abbrev S1x64 : Shape := ⟨2, ![1, 64]⟩
abbrev S1 : Shape := ⟨1, ![1]⟩
abbrev S1x1 : Shape := ⟨2, ![1, 1]⟩
abbrev S64x512 : Shape := ⟨2, ![64, 512]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S1x144x256 : Shape := ⟨3, ![1, 144, 256]⟩
abbrev S144x256 : Shape := ⟨2, ![144, 256]⟩
abbrev S144x512 : Shape := ⟨2, ![144, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 35
  | .vmem => 16
  | .smem => 0
  | _ => 0

abbrev bufTy : (tb : Table) → Fin (tcTables nBuf tb) → BufTy
  | .hbm, ⟨0, _⟩ => ⟨S16x2048x4x2x64, .f32⟩
  | .hbm, ⟨1, _⟩ => ⟨S16x2048x4x2x64, .f32⟩
  | .hbm, ⟨2, _⟩ => ⟨S16x2048x4x128, .f32⟩
  | .hbm, ⟨3, _⟩ => ⟨S16x256x4x2x64, .f32⟩
  | .hbm, ⟨4, _⟩ => ⟨S16x256x4x128, .f32⟩
  | .hbm, ⟨5, _⟩ => ⟨S4x64, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x2048x4x2x64, .f32⟩
  | .hbm, ⟨13, _⟩ => ⟨S16x2048x4x2x64, .f32⟩
  | .hbm, ⟨14, _⟩ => ⟨S16x4x2x64x2048, .f32⟩
  | .hbm, ⟨15, _⟩ => ⟨S16x512x2048, .f32⟩
  | .hbm, ⟨16, _⟩ => ⟨S16x512x2048, .bf16⟩
  | .hbm, ⟨17, _⟩ => ⟨S128x1, .f32⟩
  | .hbm, ⟨18, _⟩ => ⟨S16x2048x512, .f32⟩
  | .hbm, ⟨19, _⟩ => ⟨S16x2048x512, .bf16⟩
  | .hbm, ⟨20, _⟩ => ⟨S_, .f32⟩
  | .hbm, ⟨21, _⟩ => ⟨S16x2048x4x16, .f32⟩
  | .hbm, ⟨22, _⟩ => ⟨S16x2048x4x144, .f32⟩
  | .hbm, ⟨23, _⟩ => ⟨S16x4x144x2048, .f32⟩
  | .hbm, ⟨24, _⟩ => ⟨S16x576x2048, .f32⟩
  | .hbm, ⟨25, _⟩ => ⟨S16x576x2048, .bf16⟩
  | .hbm, ⟨26, _⟩ => ⟨S16x256x512, .f32⟩
  | .hbm, ⟨27, _⟩ => ⟨S16x256x512, .bf16⟩
  | .hbm, ⟨28, _⟩ => ⟨S_, .f32⟩
  | .hbm, ⟨29, _⟩ => ⟨S16x256x4x16, .f32⟩
  | .hbm, ⟨30, _⟩ => ⟨S16x256x4x144, .f32⟩
  | .hbm, ⟨31, _⟩ => ⟨S16x4x144x256, .f32⟩
  | .hbm, ⟨32, _⟩ => ⟨S16x576x256, .f32⟩
  | .hbm, ⟨33, _⟩ => ⟨S16x576x256, .bf16⟩
  | .hbm, ⟨34, _⟩ => ⟨S16x2048x512, .bf16⟩
  | .local _ .vmem, ⟨0, _⟩ => ⟨S4x64, .f32⟩
  | .local _ .vmem, ⟨1, _⟩ => ⟨S128x1, .f32⟩
  | .local _ .vmem, ⟨2, _⟩ => ⟨S1x512x1024, .bf16⟩
  | .local _ .vmem, ⟨3, _⟩ => ⟨S1x512x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x576x2048, .bf16⟩
  | .local _ .vmem, ⟨9, _⟩ => ⟨S1x576x2048, .bf16⟩
  | .local _ .vmem, ⟨10, _⟩ => ⟨S1x576x256, .bf16⟩
  | .local _ .vmem, ⟨11, _⟩ => ⟨S1x576x256, .bf16⟩
  | .local _ .vmem, ⟨12, _⟩ => ⟨S1x1024x512, .bf16⟩
  | .local _ .vmem, ⟨13, _⟩ => ⟨S1x1024x512, .bf16⟩
  | .local _ .vmem, ⟨14, _⟩ => ⟨S2x2304x512, .f32⟩
  | .local _ .vmem, ⟨15, _⟩ => ⟨S2x2304x512, .bf16⟩
  | _, _ => ⟨S16x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x576x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x576x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S16x2048x4x2x64 : Shape := ⟨5, ![16, 2048, 4, 2, 64]⟩
abbrev S16x2048x4x128 : Shape := ⟨4, ![16, 2048, 4, 128]⟩
abbrev S16x256x4x2x64 : Shape := ⟨5, ![16, 256, 4, 2, 64]⟩
abbrev S16x256x4x128 : Shape := ⟨4, ![16, 256, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S16x2304x4x2x64 : Shape := ⟨5, ![16, 2304, 4, 2, 64]⟩
abbrev S16x2304x4x128 : Shape := ⟨4, ![16, 2304, 4, 128]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x512 : Shape := ⟨3, ![16, 2048, 512]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x4x2x64, .f32⟩
  | .hbm, ⟨1, _⟩ => ⟨S16x2048x4x2x64, .f32⟩
  | .hbm, ⟨2, _⟩ => ⟨S16x2048x4x128, .f32⟩
  | .hbm, ⟨3, _⟩ => ⟨S16x256x4x2x64, .f32⟩
  | .hbm, ⟨4, _⟩ => ⟨S16x256x4x128, .f32⟩
  | .hbm, ⟨5, _⟩ => ⟨S4x64, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x2304x4x2x64, .f32⟩
  | .hbm, ⟨27, _⟩ => ⟨S16x2304x4x128, .f32⟩
  | .hbm, ⟨28, _⟩ => ⟨S16x4x2x2048x2304, .f32⟩
  | .hbm, ⟨29, _⟩ => ⟨S_, .f32⟩
  | .hbm, ⟨30, _⟩ => ⟨S_, .f32⟩
  | .hbm, ⟨31, _⟩ => ⟨S16x4x2x2048x2304, .f32⟩
  | .hbm, ⟨32, _⟩ => ⟨S16x4x2x2048x2304, .f32⟩
  | .hbm, ⟨33, _⟩ => ⟨S_, .f32⟩
  | .hbm, ⟨34, _⟩ => ⟨S16x4x2x2048, .f32⟩
  | .hbm, ⟨35, _⟩ => ⟨S_, .f32⟩
  | .hbm, ⟨36, _⟩ => ⟨S16x4x2x2048, .f32⟩
  | .hbm, ⟨37, _⟩ => ⟨S16x4x2x2048, .f32⟩
  | .hbm, ⟨38, _⟩ => ⟨S16x4x2x2048x1, .f32⟩
  | .hbm, ⟨39, _⟩ => ⟨S16x4x2x2048x2304, .f32⟩
  | .hbm, ⟨40, _⟩ => ⟨S16x4x2x2048x2304, .f32⟩
  | .hbm, ⟨41, _⟩ => ⟨S16x4x2x2048x2304, .f32⟩
  | .hbm, ⟨42, _⟩ => ⟨S_, .f32⟩
  | .hbm, ⟨43, _⟩ => ⟨S16x4x2x2048, .f32⟩
  | .hbm, ⟨44, _⟩ => ⟨S16x4x2x2048x1, .f32⟩
  | .hbm, ⟨45, _⟩ => ⟨S16x4x2x2048x2304, .f32⟩
  | .hbm, ⟨46, _⟩ => ⟨S16x4x2x2048x2304, .f32⟩
  | .hbm, ⟨47, _⟩ => ⟨S16x4x1x2048x2304, .f32⟩
  | .hbm, ⟨48, _⟩ => ⟨S16x4x2048x2304, .f32⟩
  | .hbm, ⟨49, _⟩ => ⟨S16x4x1x2048x2304, .f32⟩
  | .hbm, ⟨50, _⟩ => ⟨S16x4x2048x2304, .f32⟩
  | .hbm, ⟨51, _⟩ => ⟨S16x4x2048x2304, .f32⟩
  | .hbm, ⟨52, _⟩ => ⟨S16x4x2048x2304, .f32⟩
  | .hbm, ⟨53, _⟩ => ⟨S16x4x2048x2304, .f32⟩
  | .hbm, ⟨54, _⟩ => ⟨S16x4x128x2048, .f32⟩
  | .hbm, ⟨55, _⟩ => ⟨S16x2048x4x128, .f32⟩
  | .hbm, ⟨56, _⟩ => ⟨S16x2048x4x128, .f32⟩
  | .hbm, ⟨57, _⟩ => ⟨S_, .f32⟩
  | .hbm, ⟨58, _⟩ => ⟨S16x2048x4, .f32⟩
  | .hbm, ⟨59, _⟩ => ⟨S16x2048x4x1, .f32⟩
  | .hbm, ⟨60, _⟩ => ⟨S_, .f32⟩
  | .hbm, ⟨61, _⟩ => ⟨S16x2048x4x1, .f32⟩
  | .hbm, ⟨62, _⟩ => ⟨S16x2048x4x1, .f32⟩
  | .hbm, ⟨63, _⟩ => ⟨S_, .f32⟩
  | .hbm, ⟨64, _⟩ => ⟨S16x2048x4x1, .f32⟩
  | .hbm, ⟨65, _⟩ => ⟨S16x2048x4x1, .f32⟩
  | .hbm, ⟨66, _⟩ => ⟨S16x2048x4x1, .f32⟩
  | .hbm, ⟨67, _⟩ => ⟨S16x2048x4x128, .f32⟩
  | .hbm, ⟨68, _⟩ => ⟨S16x2048x4x128, .f32⟩
  | .hbm, ⟨69, _⟩ => ⟨S1x1x1x128, .f32⟩
  | .hbm, ⟨70, _⟩ => ⟨S16x2048x4x128, .f32⟩
  | .hbm, ⟨71, _⟩ => ⟨S16x2048x4x128, .f32⟩
  | .hbm, ⟨72, _⟩ => ⟨S_, .f32⟩
  | .hbm, ⟨73, _⟩ => ⟨S16x2048x4x128, .f32⟩
  | .hbm, ⟨74, _⟩ => ⟨S16x2048x4x128, .f32⟩
  | .hbm, ⟨75, _⟩ => ⟨S16x2048x512, .f32⟩
  | .hbm, ⟨76, _⟩ => ⟨S16x2048x512, .bf16⟩
  | _, _ => ⟨S16x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Proof.AttnUnit.lean ====
module

public import proofs.«01_k».proof.Defs
public import proofs.«01_k».proof.Proof.Gen.KernelIdeal.Skeleton
public import Idealize.ShloMosaic.Lib.Pipeline.Value

@[expose] public section

noncomputable section

open Idealize.ShloMosaic Idealize.ShloMosaic.TcCoe Idealize.SL.Sem

/-! One head of one tile of 512 queries, as the kernel computes it: nine chunks of 256 keys, a maximum over all of them,
the weights, and the weighted sum of the values with the rows of ones beside them. -/

namespace Cert.KernelIdeal.Out

open Cert.KernelIdeal Cert.KernelIdeal.Gen
variable {F : FTy → Type} [FloatOps F]

/-- The scores of one chunk of keys. -/
def score (q : FVec F S128x512 .bf16) (k : Vec F S1x256x128 .bf16) : FVec F S256x512 .f32 :=
  matmul dot_S256x128_S128x512_S256x512_1_0_0_1_n_n none (shapeCast S256x128 k shapeCasts_S1x256x128_S256x128) q
    (constant S256x512 .f32 0x00000000#32)

/-- A chunk's maximum over its 32 groups of 8 keys. -/
def groupMax (s : FVec F S256x512 .f32) : FVec F S8x512 .f32 :=
  multiReduction .maximumf [0] S8x512 (shapeCast S32x8x512 s shapeCasts_S256x512_S32x8x512) 0xFF800000#32
    reduces_S32x8x512_S8x512 (.inl rfl) rfl

/-- Each query's maximum over all the keys. -/
def top (q : FVec F S128x512 .bf16) (K : Fin 9 → Vec F S1x256x128 .bf16) : FVec F S1x512 .f32 :=
  shapeCast S1x512 (multiReduction .maximumf [0] S512
    (maximumf (maximumf (maximumf (maximumf (maximumf (maximumf (maximumf (maximumf (groupMax (score q (K 0))) (groupMax (score q (K 1))))
      (groupMax (score q (K 2)))) (groupMax (score q (K 3)))) (groupMax (score q (K 4)))) (groupMax (score q (K 5))))
      (groupMax (score q (K 6)))) (groupMax (score q (K 7)))) (groupMax (score q (K 8)))) 0xFF800000#32
    reduces_S8x512_S512 (.inl rfl) rfl) shapeCasts_S512_S1x512

/-- A chunk's weights, from its stored scores. -/
def weight (m : FVec F S1x512 .f32) (s : Vec F S1x256x512 .f32) : FVec F S1x256x512 .bf16 :=
  shapeCast S1x256x512 (truncf .bf16 (exp2 (subf (shapeCast S256x512 s shapeCasts_S1x256x512_S256x512)
    (broadcastTo S256x512 m broadcasts_S1x512_S256x512))) bitsLt_bf16_f32) shapeCasts_S256x512_S1x256x512

/-- A leading axis of one is dropped from `n` rows. -/
theorem casts_rows (n : ℕ) : (⟨3, ![1, n, 256]⟩ : Shape).ShapeCasts ⟨2, ![n, 256]⟩ := by
  simp [Shape.ShapeCasts, Shape.numel, Fin.prod_univ_succ]

/-- The first `d` of `n` rows. -/
theorem slices_rows {n d : ℕ} (h : d < n) : (⟨2, ![n, 512]⟩ : Shape).Slices ![0, 0] ⟨2, ![d, 512]⟩ :=
  ⟨rfl, fun a => by fin_cases a <;> simp <;> omega⟩

/-- Row `d` of `n` rows. -/
theorem slices_row {n d : ℕ} (h : d < n) : (⟨2, ![n, 512]⟩ : Shape).Slices ![d, 0] S1x512 :=
  ⟨rfl, fun a => by fin_cases a <;> simp <;> omega⟩

/-- One row spread over `d`. -/
theorem broadcasts_rows (d : ℕ) : S1x512.Broadcasts ⟨2, ![d, 512]⟩ :=
  ⟨le_rfl, fun a => by fin_cases a <;> simp [S1x512]⟩

/-- A chunk's weighted values, for any number of value rows. -/
def part {n : ℕ} (v : Vec F ⟨3, ![1, n, 256]⟩ .bf16) (p : Vec F S1x256x512 .bf16) : FVec F ⟨2, ![n, 512]⟩ .f32 :=
  matmul (φ₁ := .bf16) (φ₂ := .bf16) (.plain n 256 512) none (shapeCast ⟨2, ![n, 256]⟩ v (casts_rows n))
    (shapeCast S256x512 p shapeCasts_S1x256x512_S256x512) (constant _ .f32 0x00000000#32)

/-- The share of chunk `c`. -/
def share {n : ℕ} (q : FVec F S128x512 .bf16) (K : Fin 9 → Vec F S1x256x128 .bf16) (V : Fin 9 → Vec F ⟨3, ![1, n, 256]⟩ .bf16) (c : Fin 9) : FVec F ⟨2, ![n, 512]⟩ .f32 :=
  part (V c) (weight (top q K) (shapeCast S1x256x512 (score q (K c)) shapeCasts_S256x512_S1x256x512))

/-- The nine shares added in order. -/
def total {n : ℕ} (q : FVec F S128x512 .bf16) (K : Fin 9 → Vec F S1x256x128 .bf16) (V : Fin 9 → Vec F ⟨3, ![1, n, 256]⟩ .bf16) : FVec F ⟨2, ![n, 512]⟩ .f32 :=
  addf (addf (addf (addf (addf (addf (addf (addf (share q K V 0) (share q K V 1)) (share q K V 2)) (share q K V 3)) (share q K V 4))
    (share q K V 5)) (share q K V 6)) (share q K V 7)) (share q K V 8)

/-- The first `d` rows, the values', divided by the next row, the first of the rows of ones. -/
def normalise {n : ℕ} (d : ℕ) (h : d < n) (a : FVec F ⟨2, ![n, 512]⟩ .f32) : FVec F ⟨2, ![d, 512]⟩ .f32 :=
  mulf (extractStridedSlice ⟨2, ![d, 512]⟩ ![0, 0] a (slices_rows h))
    (broadcastTo ⟨2, ![d, 512]⟩ (divf (broadcast S1x512 (Scalar.ofBits .f32 0x3F800000#32)) (extractStridedSlice S1x512 ![d, 0] a (slices_row h)))
      (broadcasts_rows d))

/-- One head of one tile of queries, with `d` value rows. -/
def unit {n : ℕ} (d : ℕ) (h : d < n) (q : FVec F S128x512 .bf16) (K : Fin 9 → Vec F S1x256x128 .bf16) (V : Fin 9 → Vec F ⟨3, ![1, n, 256]⟩ .bf16) : FVec F ⟨2, ![d, 512]⟩ .f32 :=
  normalise d h (total q K V)

/-- Columns `o .. o + 128` of nine chunks of keys: the context's 256, then the latent 2048. -/
def keysAt {w : ℕ} (x1 : Vec F ⟨3, ![1, 2048, w]⟩ .bf16) (x2 : Vec F ⟨3, ![1, 256, w]⟩ .bf16) (o : ℕ) (ho : o + 128 ≤ w) : Fin 9 → Vec F S1x256x128 .bf16
  | 0 => View.ld x2 (Rect.unit ![0, 0, o] ![1, 256, 128] (fun a => by fin_cases a <;> simp <;> omega))
  | ⟨c + 1, hc⟩ => View.ld x1 (Rect.unit ![0, 256 * c, o] ![1, 256, 128] (fun a => by fin_cases a <;> simp <;> omega))

/-- Rows `o .. o + n` of nine chunks of values and ones. -/
def valuesAt {w : ℕ} (n : ℕ) (x3 : Vec F ⟨3, ![1, w, 2048]⟩ .bf16) (x4 : Vec F ⟨3, ![1, w, 256]⟩ .bf16) (o : ℕ) (ho : o + n ≤ w) : Fin 9 → Vec F ⟨3, ![1, n, 256]⟩ .bf16
  | 0 => View.ld x4 (Rect.unit ![0, o, 0] ![1, n, 256] (fun a => by fin_cases a <;> simp <;> omega))
  | ⟨c + 1, hc⟩ => View.ld x3 (Rect.unit ![0, o, 256 * c] ![1, n, 256] (fun a => by fin_cases a <;> simp <;> omega))

/-- The queries of one head and one tile. -/
def queriesAt (x0 : Vec F S1x1024x1024 .bf16) (o p : ℕ) (h : S1024x1024.Slices ![o, p] S128x512) : FVec F S128x512 .bf16 :=
  extractStridedSlice S128x512 ![o, p] (shapeCast S1024x1024 x0 shapeCasts_S1x1024x1024_S1024x1024) h

/-- 128 rows of a tile, turned so that a query is a row. -/
def slab (t : FVec F S512x512 .f32) (o : ℕ) (h : S512x512.Slices ![o, 0] S128x512) : FVec F S1x512x128 .bf16 :=
  shapeCast S1x512x128 (truncf .bf16 (transpose S512x128 [1, 0] (extractStridedSlice S128x512 ![o, 0] t h) transposes_S128x512_p1_0_S512x128) bitsLt_bf16_f32)
    shapeCasts_S512x128_S1x512x128

/-- The output block: two tiles of 512 queries, each turned in four slabs of 128 features. -/
def turned (T0 T1 : FVec F S512x512 .f32) : Vec F S1x1024x512 .bf16 :=
  View.canon
    [⟨Rect.unit (s := S1x1024x512) ![0, 512, 384] S1x512x128.size inb_S1x1024x512_S1x512x128_0_512_384, slab T1 384 slices_S512x512_o384_0_S128x512⟩,
     ⟨Rect.unit (s := S1x1024x512) ![0, 512, 256] S1x512x128.size inb_S1x1024x512_S1x512x128_0_512_256, slab T1 256 slices_S512x512_o256_0_S128x512⟩,
     ⟨Rect.unit (s := S1x1024x512) ![0, 512, 128] S1x512x128.size inb_S1x1024x512_S1x512x128_0_512_128, slab T1 128 slices_S512x512_o128_0_S128x512⟩,
     ⟨Rect.unit (s := S1x1024x512) ![0, 512, 0] S1x512x128.size inb_S1x1024x512_S1x512x128_0_512_0, slab T1 0 slices_S512x512_o0_0_S128x512⟩,
     ⟨Rect.unit (s := S1x1024x512) ![0, 0, 384] S1x512x128.size inb_S1x1024x512_S1x512x128_0_0_384, slab T0 384 slices_S512x512_o384_0_S128x512⟩,
     ⟨Rect.unit (s := S1x1024x512) ![0, 0, 256] S1x512x128.size inb_S1x1024x512_S1x512x128_0_0_256, slab T0 256 slices_S512x512_o256_0_S128x512⟩,
     ⟨Rect.unit (s := S1x1024x512) ![0, 0, 128] S1x512x128.size inb_S1x1024x512_S1x512x128_0_0_128, slab T0 128 slices_S512x512_o128_0_S128x512⟩,
     ⟨Rect.unit (s := S1x1024x512) ![0, 0, 0] S1x512x128.size inb_S1x1024x512_S1x512x128_0_0_0, slab T0 0 slices_S512x512_o0_0_S128x512⟩]

end Cert.KernelIdeal.Out

end
-- ==== Proof.AttnRun.lean ====
module

public import proofs.«01_k».proof.Proof.AttnUnit
public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

noncomputable section

open Idealize.ShloMosaic Idealize.ShloMosaic.TcCoe Idealize.SL.Sem

namespace Cert.KernelIdeal.Out

open Cert.KernelIdeal Cert.KernelIdeal.Gen
variable {F : FTy → Type} [FloatOps F]

theorem hz3 : (![0, 0, 0] : Fin 3 → Nat) = fun _ => 0 := funext fun a => by fin_cases a <;> rfl

variable (c : Dev nD) (arg2 : Memref sig .tc .vmem S1x1024x1024 .bf16) (harg2 : arg2.IsWhole) (arg3 : Memref sig .tc .vmem S1x2048x1024 .bf16) (harg3 : arg3.IsWhole)
  (arg4 : Memref sig .tc .vmem S1x256x1024 .bf16) (harg4 : arg4.IsWhole) (arg5 : Memref sig .tc .vmem S1x640x2048 .bf16) (harg5 : arg5.IsWhole)
  (arg6 : Memref sig .tc .vmem S1x640x256 .bf16) (harg6 : arg6.IsWhole) (arg8 : Memref sig .tc .vmem S2x2304x512 .f32) (arg9 : Memref sig .tc .vmem S2x2304x512 .bf16)
  (x0 : Vec F S1x1024x1024 .bf16) (x1 : Vec F S1x2048x1024 .bf16) (x2 : Vec F S1x256x1024 .bf16) (x3 : Vec F S1x640x2048 .bf16) (x4 : Vec F S1x640x256 .bf16)

set_option maxHeartbeats 4000000
set_option maxRecDepth 10000

/-- The offsets of a head's queries in the block. -/
theorem slices_head (h : Fin 8) (p : ℕ) (hp : p + 512 ≤ 1024) : S1024x1024.Slices ![128 * h.val, p] S128x512 :=
  ⟨rfl, fun a => by have := h.isLt; fin_cases a <;> simp [S1024x1024, S128x512] <;> omega⟩

/-- Head `h` of the tile of queries at `p`. -/
def headAt (p : ℕ) (hp : p + 512 ≤ 1024) (h : Fin 8) : FVec F S64x512 .f32 :=
  unit 64 (by decide) (queriesAt x0 (128 * h.val) p (slices_head h p hp)) (keysAt x1 x2 (128 * h.val) (by omega)) (valuesAt 80 x3 x4 (80 * h.val) (by omega))

/-- The eight heads of a tile, one above the other. -/
def tileOf (f : Fin 8 → FVec F S64x512 .f32) : FVec F S512x512 .f32 :=
  concatenate S512x512 0 (List.ofFn fun h => ⟨S64x512, f h⟩) concatenates_S64x512_S64x512_S64x512_S64x512_S64x512_S64x512_S64x512_S64x512_S512x512_d0

/-- What the body leaves in the output's buffer, as a term of the input blocks. -/
theorem out_A (i : grid0.Coords) (arg7 : Memref sig .tc .vmem S1x1024x512 .bf16) (harg7 : arg7.IsWhole) (harg8 : arg8.IsWhole) (harg9 : arg9.IsWhole) :
    out0_A_5 c i arg2 harg2 arg3 harg3 arg4 harg4 arg5 harg5 arg6 harg6 arg7 harg7 arg8 harg8 arg9 harg9 x0 x1 x2 x3 x4 =
      turned (tileOf (headAt x0 x1 x2 x3 x4 0 (by omega))) (tileOf (headAt x0 x1 x2 x3 x4 512 (by omega))) := by
  unfold out0_A_5
  rw [View.read_writes_eq_canon _ _ _ (fun y => cover0_A_5 _ _ _ _ _ _ _ _ _ _ _ _ _ _ _ _ _ _ _ _ _ _ _ y)]
  unfold kernelRun0_A
  dsimp only
  sl_unfold_words
  simp (disch := decide) only [↓ View.readCov_skip, ↓ View.readCov_cons_toLoadRect, View.readAt_eq_ld, harg2.read_unread, harg3.read_unread, harg4.read_unread,
    harg5.read_unread, harg6.read_unread, View.ld_unit_zero (S := S1x1024x1024) hz3]
  rfl

end Cert.KernelIdeal.Out

end
-- ==== Proof.AttnTile.lean ====
module

public import proofs.«01_k».proof.Proof.AttnRun
public import Idealize.ShloMosaic.Lib.Pointwise
public import Idealize.ShloMosaic.Lib.Pipeline.ValueKit.Tiles

@[expose] public section

noncomputable section

open Idealize.ShloMosaic Idealize.ShloMosaic.TcCoe Idealize.SL.Sem

/-! The attention body's output block, at an index: one entry of one head of one tile. -/

namespace Cert.KernelIdeal.Out

open Cert.KernelIdeal Cert.KernelIdeal.Gen

theorem slab_apply (f : FVec Ideal S512x512 .f32) (o : ℕ) (h : S512x512.Slices ![o, 0] S128x512) (ho : o + 128 ≤ 512) (r : Fin 512) (d : Fin 128) :
    slab f o h (ix3 0 r d) = f (ix2 ⟨o + d, by omega⟩ r) := by
  unfold slab
  pointwise

theorem tileOf_apply (f : Fin 8 → FVec Ideal S64x512 .f32) (i : Fin 512) (t : Fin 512) :
    tileOf f (ix2 i t) = f ⟨i.val / 64, by omega⟩ (ix2 ⟨i.val % 64, by omega⟩ t) := by
  unfold tileOf
  refine concatenate_ofFn_apply (s₁ := S64x512) (0 : Fin S512x512.rank) f _ rfl 64 rfl (ix2 i t) ⟨i.val / 64, by omega⟩ rfl (ix2 ⟨i.val % 64, by omega⟩ t) rfl ?_
  intro b hb
  match b with
  | ⟨0, _⟩ => exact absurd rfl hb
  | ⟨1, _⟩ => rfl

/-- One stored slab holds, at a local index, the entry of its tile that the block's index names. -/
theorem piece (T : FVec Ideal S512x512 .f32) (o : ℕ) (h : S512x512.Slices ![o, 0] S128x512) (ho : o + 128 ≤ 512) (x : S1x512x128.Idx) (w : EReal)
    (d : Fin 512) (t : Fin 512) (hd : d.val = o + (x 2).val) (ht : t.val = (x 1).val) (hw : T (ix2 d t) = w) : slab T o h x = w := by
  have hx : x = ix3 (0 : Fin 1) t (⟨d.val - o, by have : (x 2).val < 128 := (x 2).isLt; omega⟩ : Fin 128) := by
    funext a
    match a with
    | ⟨0, _⟩ => exact Subsingleton.elim (α := Fin 1) _ _
    | ⟨1, _⟩ => exact Fin.ext ht.symm
    | ⟨2, _⟩ => exact Fin.ext (by show (x 2).val = d.val - o; omega)
  rw [hx, slab_apply _ _ _ ho, show (⟨o + (d.val - o), by omega⟩ : Fin 512) = d from Fin.ext (by show o + (d.val - o) = d.val; omega), hw]

/-- The output block at an index of the tile at `p`. -/
theorem turned_apply (T : ℕ → FVec Ideal S512x512 .f32) (p : ℕ) (hp : p + 512 ≤ 1024) (hp' : p = 0 ∨ p = 512) (t : Fin 512) (d : Fin 512) :
    turned (T 0) (T 512) (ix3 (0 : Fin 1) (⟨p + t, by omega⟩ : Fin 1024) d) = T p (ix2 d t) := by
  unfold turned
  rcases hp' with rfl | rfl
  · canon_tiles x h
    all_goals
      change 0 + t.val = _ at h1
      change d.val = _ at h2
      first
        | (exfalso; omega)
        | exact piece _ _ _ (by decide) x _ d t (by omega) (by omega) rfl
  · canon_tiles x h
    all_goals
      change 512 + t.val = _ at h1
      change d.val = _ at h2
      first
        | (exfalso; omega)
        | exact piece _ _ _ (by decide) x _ d t (by omega) (by omega) rfl

variable (c : Dev nD) (arg2 : Memref sig .tc .vmem S1x1024x1024 .bf16) (harg2 : arg2.IsWhole) (arg3 : Memref sig .tc .vmem S1x2048x1024 .bf16) (harg3 : arg3.IsWhole)
  (arg4 : Memref sig .tc .vmem S1x256x1024 .bf16) (harg4 : arg4.IsWhole) (arg5 : Memref sig .tc .vmem S1x640x2048 .bf16) (harg5 : arg5.IsWhole)
  (arg6 : Memref sig .tc .vmem S1x640x256 .bf16) (harg6 : arg6.IsWhole) (arg8 : Memref sig .tc .vmem S2x2304x512 .f32) (arg9 : Memref sig .tc .vmem S2x2304x512 .bf16)
  (x0 : Vec Ideal S1x1024x1024 .bf16) (x1 : Vec Ideal S1x2048x1024 .bf16) (x2 : Vec Ideal S1x256x1024 .bf16) (x3 : Vec Ideal S1x640x2048 .bf16) (x4 : Vec Ideal S1x640x256 .bf16)

/-- The output block at an index of the tile at `p`: head `d / 64`'s feature `d % 64` of query `t`. -/
theorem out_apply (i : grid0.Coords) (arg7 : Memref sig .tc .vmem S1x1024x512 .bf16) (harg7 : arg7.IsWhole) (harg8 : arg8.IsWhole) (harg9 : arg9.IsWhole)
    (p : ℕ) (hp : p + 512 ≤ 1024) (hp' : p = 0 ∨ p = 512) (t : Fin 512) (d : Fin 512) :
    out0_A_5 c i arg2 harg2 arg3 harg3 arg4 harg4 arg5 harg5 arg6 harg6 arg7 harg7 arg8 harg8 arg9 harg9 x0 x1 x2 x3 x4 (ix3 (0 : Fin 1) (⟨p + t, by omega⟩ : Fin 1024) d)
      = headAt x0 x1 x2 x3 x4 p hp ⟨d.val / 64, by omega⟩ (ix2 ⟨d.val % 64, by omega⟩ t) := by
  rw [out_A]
  rcases hp' with rfl | rfl
  · exact (turned_apply (fun p => if h : p + 512 ≤ 1024 then tileOf (headAt x0 x1 x2 x3 x4 p h) else tileOf (headAt x0 x1 x2 x3 x4 0 (by omega))) 0 hp (.inl rfl) t d).trans (tileOf_apply _ d t)
  · exact (turned_apply (fun p => if h : p + 512 ≤ 1024 then tileOf (headAt x0 x1 x2 x3 x4 p h) else tileOf (headAt x0 x1 x2 x3 x4 0 (by omega))) 512 hp (.inr rfl) t d).trans (tileOf_apply _ d t)

end Cert.KernelIdeal.Out

end
-- ==== Proof.AttnEq.lean ====
module

public import Idealize.ShloMosaic.Lib.Pointwise

@[expose] public section

noncomputable section

open Idealize.ShloMosaic

/-! Softmax attention of one query over the extended reals: the two forms of its scores and of its weighted sum. -/

namespace Cert.Attn

/-- Neither infinity. -/
def IsReal (x : EReal) : Prop := ∃ r : ℝ, x = (r : EReal)

theorem negInf : Ideal.ofBits FTy.f32 4286578688#32 = ⊥ := by
  simp [Ideal.ofBits, Ideal.ieee]

theorem ninetySix : Ideal.ofBits FTy.f32 1119879168#32 = ((96 : ℝ) : EReal) := by
  simp [Ideal.ofBits, Ideal.ieee, -EReal.coe_mul]; norm_num

theorem two : Ideal.ofBits FTy.f32 1073741824#32 = ((2 : ℝ) : EReal) := by
  simp [Ideal.ofBits, Ideal.ieee, -EReal.coe_mul]; norm_num

theorem IsReal.max {x y : EReal} (hx : IsReal x) (hy : IsReal y) : IsReal (max x y) := by
  rcases max_choice x y with h | h <;> rw [h] <;> assumption

theorem isReal_fold {n : ℕ} (hn : 0 < n) (f : Fin n → EReal) (h : ∀ i, IsReal (f i)) :
    IsReal (Finset.fold max (Ideal.ofBits FTy.f32 4286578688#32) f Finset.univ) := by
  rw [negInf]
  obtain ⟨i, _, e⟩ := Finset.exists_mem_eq_sup Finset.univ ⟨(⟨0, hn⟩ : Fin n), Finset.mem_univ _⟩ f
  have e' : Finset.fold max ⊥ f Finset.univ = f i := e
  rw [e']
  exact h i

/-- A query's score of a key: 64 features of the head's own and 32 shared, over the root of 96. -/
def scoreRow (q : Fin 96 → EReal) (kn : Fin 64 → EReal) (kr : Fin 32 → EReal) : EReal :=
  Ideal.div ((∑ x : Fin 64, q ⟨x, by omega⟩ * kn x) + ∑ x : Fin 32, kr x * q ⟨64 + x, by omega⟩) (Ideal.sqrt (Ideal.ofBits FTy.f32 1119879168#32))

/-- The same score as the padded product, in units of the logarithm of two. -/
def padScore (q : Fin 96 → EReal) (kn : Fin 64 → EReal) (kr : Fin 32 → EReal) : EReal :=
  ∑ i : Fin 128, (if h1 : i.val < 64 then kn ⟨i, h1⟩ else if h2 : i.val - 64 < 32 then kr ⟨i.val - 64, h2⟩ else 0)
    * Ideal.div (if hi : i.val < 96 then q ⟨i, hi⟩ else 0) (Ideal.sqrt (Ideal.ofBits FTy.f32 1119879168#32) * Ideal.log (Ideal.ofBits FTy.f32 1073741824#32))

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem cut (f : Fin 128 → EReal) : ∑ i, f i = (∑ x : Fin 64, f ⟨x, by omega⟩) + (∑ x : Fin 32, f ⟨64 + x, by omega⟩) + ∑ x : Fin 32, f ⟨96 + x, by omega⟩ :=
  (Fin.sum_univ_add (a := 96) (b := 32) f).trans (congrArg (· + _) (Fin.sum_univ_add (a := 64) (b := 32) fun i => f ⟨i, by omega⟩))

/-- With finite queries and keys the two scores are real, one the other over the logarithm of two. -/
theorem score_eq (q : Fin 96 → EReal) (kn : Fin 64 → EReal) (kr : Fin 32 → EReal) (hq : ∀ i, IsReal (q i)) (hn : ∀ i, IsReal (kn i)) (hr : ∀ i, IsReal (kr i)) :
    ∃ r : ℝ, scoreRow q kn kr = (r : EReal) ∧ padScore q kn kr = ((r / Real.log 2 : ℝ) : EReal) := by
  choose q' hq using hq
  choose n' hn using hn
  choose r' hr using hr
  have h96 : (0 : ℝ) < Real.sqrt 96 := Real.sqrt_pos.mpr (by norm_num)
  have hlog : (0 : ℝ) < Real.log 2 := Real.log_pos (by norm_num)
  have hL : Ideal.sqrt (Ideal.ofBits FTy.f32 1119879168#32) = ((Real.sqrt 96 : ℝ) : EReal) := by
    rw [ninetySix, Ideal.sqrt_coe, if_neg (by norm_num)]
  have hM : Ideal.sqrt (Ideal.ofBits FTy.f32 1119879168#32) * Ideal.log (Ideal.ofBits FTy.f32 1073741824#32) = ((Real.sqrt 96 * Real.log 2 : ℝ) : EReal) := by
    rw [hL, two, Ideal.log_coe, if_neg (by norm_num), EReal.coe_mul]
  refine ⟨((∑ x : Fin 64, q' ⟨x, by omega⟩ * n' x) + ∑ x : Fin 32, r' x * q' ⟨64 + x, by omega⟩) * (1 / Real.sqrt 96), ?_, ?_⟩
  · unfold scoreRow
    rw [hL, Ideal.div_coe h96.ne']
    simp only [hq, hn, hr, ← EReal.coe_mul, coe_sum, ← EReal.coe_add]
  · unfold padScore
    simp only [hM, Ideal.div_coe (mul_pos h96 hlog).ne']
    rw [cut]
    have e1 (x : Fin 64) : x.val < 96 := by omega
    have e2 (x : Fin 32) : ¬ 64 + x.val < 64 := by omega
    have e3 (x : Fin 32) : 64 + x.val - 64 < 32 := by omega
    have e4 (x : Fin 32) : 64 + x.val < 96 := by omega
    have e5 (x : Fin 32) : ¬ 96 + x.val < 64 := by omega
    have e6 (x : Fin 32) : ¬ 96 + x.val - 64 < 32 := by omega
    simp only [Fin.is_lt, dite_true, e1, e2, e3, e4, e5, e6, dite_false, zero_mul, Finset.sum_const_zero, add_zero, Nat.add_sub_cancel_left, Fin.eta]
    simp only [hq, hn, hr, ← EReal.coe_mul, coe_sum, ← EReal.coe_add]
    congr 1
    rw [add_mul, add_div, Finset.sum_mul, Finset.sum_mul, Finset.sum_div, Finset.sum_div]
    congr 1 <;> refine Finset.sum_congr rfl fun x _ => ?_ <;> field_simp

/-- The weighted sum the reference takes: each weight divided by their sum. -/
def softRow (s v : Fin 2304 → EReal) (M : EReal) : EReal :=
  ∑ k, v k * Ideal.div (Ideal.exp (s k - M)) (∑ j, Ideal.exp (s j - M))

theorem mul_sum_pos {n : ℕ} (a : ℝ) (ha : 0 < a) (f : Fin n → EReal) : (a : EReal) * ∑ i, f i = ∑ i, (a : EReal) * f i := by
  induction n with
  | zero => simp
  | succ n ih => rw [Fin.sum_univ_succ, Fin.sum_univ_succ, EReal.left_distrib_of_nonneg_of_ne_top (by exact_mod_cast ha.le) (EReal.coe_ne_top a), ih]

/-- Powers of two of scores over `log 2`, from any real offset, with one division by their sum at the end, give the same
weighted sum. -/
theorem soft_eq (s t v : Fin 2304 → EReal) (M N : EReal) (hM : IsReal M) (hN : IsReal N)
    (h : ∀ k, ∃ r : ℝ, s k = (r : EReal) ∧ t k = ((r / Real.log 2 : ℝ) : EReal)) :
    (∑ k, v k * Ideal.exp2 (t k - N)) * Ideal.div 1 (∑ k, 1 * Ideal.exp2 (t k - N)) = softRow s v M := by
  choose r hs ht using h
  obtain ⟨μ, rfl⟩ := hM
  obtain ⟨ν, rfl⟩ := hN
  have hlog : (0 : ℝ) < Real.log 2 := Real.log_pos (by norm_num)
  set a : ℝ := Real.exp (μ - ν * Real.log 2) with ha
  set D : ℝ := ∑ k, Real.exp (r k - μ) with hD
  have ha0 : 0 < a := Real.exp_pos _
  have hD0 : 0 < D := Finset.sum_pos (fun k _ => Real.exp_pos _) ⟨0, Finset.mem_univ _⟩
  have hw (k : Fin 2304) : Ideal.exp2 (t k - (ν : EReal)) = ((a * D * (Real.exp (r k - μ) * (1 / D)) : ℝ) : EReal) := by
    rw [ht, ← EReal.coe_sub, Ideal.exp2_coe]
    congr 1
    have e1 : Real.rpow 2 (r k / Real.log 2 - ν) = Real.exp (Real.log 2 * (r k / Real.log 2 - ν)) := Real.rpow_def_of_pos (by norm_num) _
    have e2 : Real.log 2 * (r k / Real.log 2 - ν) = (μ - ν * Real.log 2) + (r k - μ) := by field_simp; ring
    rw [e1, e2, Real.exp_add, ← ha]
    field_simp
  have hd (k : Fin 2304) : Ideal.div (Ideal.exp (s k - (μ : EReal))) (∑ j, Ideal.exp (s j - (μ : EReal))) = ((Real.exp (r k - μ) * (1 / D) : ℝ) : EReal) := by
    simp only [hs, ← EReal.coe_sub, Ideal.exp_coe]
    rw [coe_sum, ← hD, Ideal.div_coe hD0.ne', ← EReal.coe_mul]
  have hden : (∑ k, 1 * Ideal.exp2 (t k - (ν : EReal))) = ((a * D : ℝ) : EReal) := by
    simp only [one_mul, hw]
    rw [coe_sum, ← Finset.mul_sum, ← Finset.sum_mul, ← hD]
    congr 1
    field_simp
  have hsum : ∑ k, v k * Ideal.exp2 (t k - (ν : EReal)) = ((a * D : ℝ) : EReal) * softRow s v μ := by
    unfold softRow
    rw [mul_sum_pos (a * D) (mul_pos ha0 hD0)]
    refine Finset.sum_congr rfl fun k _ => ?_
    rw [hw, hd, EReal.coe_mul, mul_left_comm]
  rw [hden, hsum, Ideal.div_coe (mul_pos ha0 hD0).ne', one_mul, mul_comm, ← mul_assoc, ← EReal.coe_mul,
    one_div_mul_cancel (mul_pos ha0 hD0).ne', EReal.coe_one, one_mul]

/-- A sum over the 2304 keys, cut into the nine chunks of 256. -/
theorem sum_chunks (A : Fin 2304 → EReal) :
    ∑ k, A k = (∑ x : Fin 256, A ⟨0 + x, by omega⟩) + (∑ x : Fin 256, A ⟨256 + x, by omega⟩) + (∑ x : Fin 256, A ⟨512 + x, by omega⟩)
      + (∑ x : Fin 256, A ⟨768 + x, by omega⟩) + (∑ x : Fin 256, A ⟨1024 + x, by omega⟩) + (∑ x : Fin 256, A ⟨1280 + x, by omega⟩)
      + (∑ x : Fin 256, A ⟨1536 + x, by omega⟩) + (∑ x : Fin 256, A ⟨1792 + x, by omega⟩) + (∑ x : Fin 256, A ⟨2048 + x, by omega⟩) := by
  have cut (n : ℕ) (hn : n + 256 ≤ 2304) : ∑ f : Fin (n + 256), A ⟨f, by omega⟩
      = (∑ f : Fin n, A ⟨f, by omega⟩) + ∑ x : Fin 256, A ⟨n + x, by omega⟩ := Fin.sum_univ_add _
  refine (cut 2048 (by omega)).trans ?_
  rw [cut 1792 (by omega), cut 1536 (by omega), cut 1280 (by omega), cut 1024 (by omega), cut 768 (by omega), cut 512 (by omega), cut 256 (by omega)]
  simp only [Nat.zero_add]

end Cert.Attn

end
-- ==== Proof.AttnRows.lean ====
module

public import proofs.«01_k».proof.Proof.AttnUnit
public import proofs.«01_k».proof.Proof.AttnEq
public import Idealize.ShloMosaic.Lib.Pointwise
public import Idealize.ShloMosaic.Lib.MatmulPlain
public import Idealize.ShloMosaic.Lib.Pipeline.ValueKit.Point
public import Idealize.ShloMosaic.Lib.Tactic

@[expose] public section

noncomputable section

open Idealize.ShloMosaic Idealize.ShloMosaic.TcCoe Idealize.SL.Sem

/-! One head of one tile of queries, at an index: the softmax-weighted sum of the values. -/

namespace Cert.KernelIdeal.Out

open Cert.Attn Cert.KernelIdeal Cert.KernelIdeal.Gen

theorem score_apply (q : FVec Ideal S128x512 .bf16) (k : Vec Ideal S1x256x128 .bf16) (x : Fin 256) (t : Fin 512) :
    score q k (ix2 x t) = ∑ i : Fin 128, k (ix3 0 x i) * q (ix2 i t) := by
  unfold score
  pointwise [dot_S256x128_S128x512_S256x512_1_0_0_1_n_n]

/-- A group's maximum is real where the chunk's scores are. -/
theorem groupMax_real (s : FVec Ideal S256x512 .f32) (t : Fin 512) (h : ∀ x : Fin 256, IsReal (s (ix2 x t))) (g : Fin 8) :
    IsReal (groupMax s (ix2 g t)) := by
  have e : groupMax s (ix2 g t) = Finset.fold max (Ideal.ofBits FTy.f32 4286578688#32) (fun x : Fin 32 => s (ix2 ⟨x.val * 8 + g.val, by omega⟩ t)) Finset.univ := by
    unfold groupMax
    pointwise
  rw [e]
  exact isReal_fold (by decide) _ fun x => h _

/-- So is the maximum over all the keys. -/
theorem top_real (q : FVec Ideal S128x512 .bf16) (K : Fin 9 → Vec Ideal S1x256x128 .bf16) (t : Fin 512)
    (h : ∀ (c : Fin 9) (x : Fin 256), IsReal (score q (K c) (ix2 x t))) : IsReal (top q K (ix2 0 t)) := by
  have H (c : Fin 9) (g : Fin 8) : IsReal (groupMax (score q (K c)) (ix2 g t)) := groupMax_real _ t (h c) g
  have e : top q K (ix2 0 t) = Finset.fold max (Ideal.ofBits FTy.f32 4286578688#32) (fun x : Fin 8 =>
      max (max (max (max (max (max (max (max (groupMax (score q (K 0)) (ix2 x t)) (groupMax (score q (K 1)) (ix2 x t))) (groupMax (score q (K 2)) (ix2 x t)))
        (groupMax (score q (K 3)) (ix2 x t))) (groupMax (score q (K 4)) (ix2 x t))) (groupMax (score q (K 5)) (ix2 x t))) (groupMax (score q (K 6)) (ix2 x t)))
        (groupMax (score q (K 7)) (ix2 x t))) (groupMax (score q (K 8)) (ix2 x t))) Finset.univ := by
    unfold top
    pointwise
  rw [e]
  exact isReal_fold (by decide) _ fun x => ((((((((H 0 x).max (H 1 x)).max (H 2 x)).max (H 3 x)).max (H 4 x)).max (H 5 x)).max (H 6 x)).max (H 7 x)).max (H 8 x)

theorem weight_apply (m : FVec Ideal S1x512 .f32) (s : Vec Ideal S1x256x512 .f32) (x : Fin 256) (t : Fin 512) :
    weight m s (ix3 0 x t) = Ideal.exp2 (s (ix3 0 x t) - m (ix2 0 t)) := by
  unfold weight
  pointwise
  rfl

theorem part_apply {n : ℕ} (v : Vec Ideal ⟨3, ![1, n, 256]⟩ .bf16) (p : Vec Ideal S1x256x512 .bf16) (e : Fin n) (t : Fin 512) :
    part v p (ix2 e t) = ∑ x : Fin 256, v (ix3 0 e x) * p (ix3 0 x t) := by
  unfold part
  have hc : constant (F := Ideal) ⟨2, ![n, 512]⟩ .f32 0x00000000#32 (ix2 e t) = (0 : EReal) := by pointwise
  refine (Ideal.matmul_plain_apply ..).trans ?_
  refine (congrArg₂ (· + ·) hc rfl).trans ((zero_add _).trans (Finset.sum_congr rfl fun x _ => congrArg₂ (· * ·) ?_ ?_))
  · exact shapeCast_apply v _ _ (ix3 0 e x) (by
      rw [Shape.rowMajor_val_two, Shape.rowMajor_val_three]
      show (0 * n + e.val) * 256 + x.val = e.val * 256 + x.val
      omega)
  · pointwise

theorem stored_apply (s : FVec Ideal S256x512 .f32) (x : Fin 256) (t : Fin 512) :
    shapeCast S1x256x512 s shapeCasts_S256x512_S1x256x512 (ix3 0 x t) = s (ix2 x t) := by
  pointwise

theorem share_apply {n : ℕ} (q : FVec Ideal S128x512 .bf16) (K : Fin 9 → Vec Ideal S1x256x128 .bf16) (V : Fin 9 → Vec Ideal ⟨3, ![1, n, 256]⟩ .bf16) (c : Fin 9) (e : Fin n) (t : Fin 512) :
    share q K V c (ix2 e t) = ∑ x : Fin 256, V c (ix3 0 e x) * Ideal.exp2 (score q (K c) (ix2 x t) - top q K (ix2 0 t)) := by
  unfold share
  rw [part_apply]
  refine Finset.sum_congr rfl fun x _ => ?_
  rw [weight_apply, stored_apply]

theorem total_apply {n : ℕ} (q : FVec Ideal S128x512 .bf16) (K : Fin 9 → Vec Ideal S1x256x128 .bf16) (V : Fin 9 → Vec Ideal ⟨3, ![1, n, 256]⟩ .bf16) (e : Fin n) (t : Fin 512)
    (A : Fin 2304 → EReal) (h : ∀ (c : Fin 9) (x : Fin 256), V c (ix3 0 e x) * Ideal.exp2 (score q (K c) (ix2 x t) - top q K (ix2 0 t)) = A ⟨256 * c + x, by omega⟩) :
    total q K V (ix2 e t) = ∑ k, A k := by
  have H (c : Fin 9) : share q K V c (ix2 e t) = ∑ x : Fin 256, A ⟨256 * c + x, by omega⟩ :=
    (share_apply q K V c e t).trans (Finset.sum_congr rfl fun x _ => h c x)
  refine Eq.trans ?_ (sum_chunks A).symm
  show share q K V 0 (ix2 e t) + share q K V 1 (ix2 e t) + share q K V 2 (ix2 e t) + share q K V 3 (ix2 e t) + share q K V 4 (ix2 e t)
    + share q K V 5 (ix2 e t) + share q K V 6 (ix2 e t) + share q K V 7 (ix2 e t) + share q K V 8 (ix2 e t) = _
  simp only [H]
  rfl

theorem normalise_apply {n d : ℕ} (h : d < n) (a : FVec Ideal ⟨2, ![n, 512]⟩ .f32) (e : Fin d) (t : Fin 512) :
    normalise d h a (ix2 e t) = a (ix2 ⟨e.val, by omega⟩ t) * Ideal.div 1 (a (ix2 ⟨d, h⟩ t)) := by
  unfold normalise
  have e1 (k : (⟨2, ![n, 512]⟩ : Shape).Idx) (hk : ∀ b, (k b).val = (![0, 0] : Fin 2 → ℕ) b + (ix2 e t b).val) :
      extractStridedSlice ⟨2, ![d, 512]⟩ ![0, 0] a (slices_rows h) (ix2 e t) = a k := extractStridedSlice_apply _ _ _ _ _ hk
  have e2 (k : (⟨2, ![n, 512]⟩ : Shape).Idx) (hk : ∀ b, (k b).val = (![d, 0] : Fin 2 → ℕ) b + (ix2 (0 : Fin 1) t b).val) :
      extractStridedSlice S1x512 ![d, 0] a (slices_row h) (ix2 0 t) = a k := extractStridedSlice_apply _ _ _ _ _ hk
  rw [← e1 (ix2 ⟨e.val, by omega⟩ t) (fun b => by fin_cases b <;> exact (Nat.zero_add _).symm),
    ← e2 (ix2 ⟨d, h⟩ t) (fun b => by fin_cases b; exacts [rfl, (Nat.zero_add _).symm])]
  pointwise

/-- Where the scores are the real scores `s` over `log 2`, a head's row is their softmax-weighted sum of the values. -/
theorem unit_apply {n d : ℕ} (h : d < n) (q : FVec Ideal S128x512 .bf16) (K : Fin 9 → Vec Ideal S1x256x128 .bf16) (V : Fin 9 → Vec Ideal ⟨3, ![1, n, 256]⟩ .bf16) (e : Fin d) (t : Fin 512)
    (s u v : Fin 2304 → EReal) (M : EReal) (hM : IsReal M) (hs : ∀ k, ∃ r : ℝ, s k = (r : EReal) ∧ u k = ((r / Real.log 2 : ℝ) : EReal))
    (hK : ∀ (c : Fin 9) (x : Fin 256), score q (K c) (ix2 x t) = u ⟨256 * c + x, by omega⟩)
    (hV : ∀ (c : Fin 9) (x : Fin 256), V c (ix3 0 ⟨e.val, by omega⟩ x) = v ⟨256 * c + x, by omega⟩) (h1 : ∀ (c : Fin 9) (x : Fin 256), V c (ix3 0 ⟨d, h⟩ x) = (1 : EReal)) :
    unit d h q K V (ix2 e t) = softRow s v M := by
  have hN : IsReal (top q K (ix2 0 t)) := top_real q K t fun c x => by
    obtain ⟨r, _, hr⟩ := hs ⟨256 * c + x, by omega⟩
    rw [hK]
    exact ⟨_, hr⟩
  unfold unit
  rw [normalise_apply, total_apply q K V _ t (fun k => v k * Ideal.exp2 (u k - top q K (ix2 0 t))) (fun c x => by rw [hV, hK]),
    total_apply q K V ⟨d, h⟩ t (fun k => 1 * Ideal.exp2 (u k - top q K (ix2 0 t))) (fun c x => by rw [h1, hK])]
  exact soft_eq s u v M _ hM hN hs

/-- The first chunk of keys is the context's. -/
theorem keysAt_ctx {w : ℕ} (x1 : FVec Ideal ⟨3, ![1, 2048, w]⟩ .bf16) (x2 : FVec Ideal ⟨3, ![1, 256, w]⟩ .bf16) (o : ℕ) (ho : o + 128 ≤ w) (x : Fin 256) (i : Fin 128) :
    (keysAt (F := Ideal) x1 x2 o ho 0 (ix3 0 x i) : EReal) = x2 (ix3 0 x ⟨o + i, by omega⟩) := by
  refine View.ld_unit_apply_of (Val := Elt Ideal) (e := .bf16) (S := ⟨3, ![1, 256, w]⟩) x2 _ _ _ _ _ fun a => ?_
  fin_cases a
  · rfl
  · exact (Nat.zero_add _).symm
  · rfl

/-- The others are the latent tokens'. -/
theorem keysAt_lat {w : ℕ} (x1 : FVec Ideal ⟨3, ![1, 2048, w]⟩ .bf16) (x2 : FVec Ideal ⟨3, ![1, 256, w]⟩ .bf16) (o : ℕ) (ho : o + 128 ≤ w) (c : ℕ) (hc : c + 1 < 9) (x : Fin 256) (i : Fin 128) :
    (keysAt (F := Ideal) x1 x2 o ho ⟨c + 1, hc⟩ (ix3 0 x i) : EReal) = x1 (ix3 0 ⟨256 * c + x, by omega⟩ ⟨o + i, by omega⟩) := by
  refine View.ld_unit_apply_of (Val := Elt Ideal) (e := .bf16) (S := ⟨3, ![1, 2048, w]⟩) x1 _ _ _ _ _ fun a => ?_
  fin_cases a <;> rfl

/-- The first chunk of values is the context's. -/
theorem valuesAt_ctx {w n : ℕ} (x3 : FVec Ideal ⟨3, ![1, w, 2048]⟩ .bf16) (x4 : FVec Ideal ⟨3, ![1, w, 256]⟩ .bf16) (o : ℕ) (ho : o + n ≤ w) (x : Fin 256) (e : Fin n) :
    (valuesAt (F := Ideal) n x3 x4 o ho 0 (ix3 0 e x) : EReal) = x4 (ix3 0 ⟨o + e, by omega⟩ x) := by
  refine View.ld_unit_apply_of (Val := Elt Ideal) (e := .bf16) (S := ⟨3, ![1, w, 256]⟩) x4 _ _ _ _ _ fun a => ?_
  fin_cases a
  · rfl
  · rfl
  · exact (Nat.zero_add _).symm

/-- The others are the latent tokens'. -/
theorem valuesAt_lat {w n : ℕ} (x3 : FVec Ideal ⟨3, ![1, w, 2048]⟩ .bf16) (x4 : FVec Ideal ⟨3, ![1, w, 256]⟩ .bf16) (o : ℕ) (ho : o + n ≤ w) (c : ℕ) (hc : c + 1 < 9) (x : Fin 256) (e : Fin n) :
    (valuesAt (F := Ideal) n x3 x4 o ho ⟨c + 1, hc⟩ (ix3 0 e x) : EReal) = x3 (ix3 0 ⟨o + e, by omega⟩ ⟨256 * c + x, by omega⟩) := by
  refine View.ld_unit_apply_of (Val := Elt Ideal) (e := .bf16) (S := ⟨3, ![1, w, 2048]⟩) x3 _ _ _ _ _ fun a => ?_
  fin_cases a <;> rfl

/-- Key `k` of the chunks, where the context's and the latent keys are the first and the later ones of `f`. -/
theorem keysAt_apply {w : ℕ} (x1 : FVec Ideal ⟨3, ![1, 2048, w]⟩ .bf16) (x2 : FVec Ideal ⟨3, ![1, 256, w]⟩ .bf16) (o : ℕ) (ho : o + 128 ≤ w) (f : Fin 2304 → Fin 128 → EReal)
    (h2 : ∀ (x : Fin 256) (i : Fin 128), x2 (ix3 0 x ⟨o + i, by omega⟩) = f ⟨x, by omega⟩ i)
    (h1 : ∀ (x : Fin 2048) (i : Fin 128), x1 (ix3 0 x ⟨o + i, by omega⟩) = f ⟨256 + x, by omega⟩ i) (c : Fin 9) (x : Fin 256) (i : Fin 128) :
    (keysAt (F := Ideal) x1 x2 o ho c (ix3 0 x i) : EReal) = f ⟨256 * c + x, by omega⟩ i := by
  match c with
  | ⟨0, _⟩ =>
    refine (keysAt_ctx x1 x2 o ho x i).trans ((h2 x i).trans (congrArg (f · i) (Fin.ext ?_)))
    show x.val = 256 * 0 + x.val
    omega
  | ⟨c + 1, hc⟩ =>
    refine (keysAt_lat x1 x2 o ho c hc x i).trans ((h1 _ i).trans (congrArg (f · i) (Fin.ext ?_)))
    show 256 + (256 * c + x.val) = 256 * (c + 1) + x.val
    omega

/-- Value row `e` of key `k` of the chunks likewise. -/
theorem valuesAt_apply {w n : ℕ} (x3 : FVec Ideal ⟨3, ![1, w, 2048]⟩ .bf16) (x4 : FVec Ideal ⟨3, ![1, w, 256]⟩ .bf16) (o : ℕ) (ho : o + n ≤ w) (f : Fin 2304 → Fin n → EReal)
    (h4 : ∀ (x : Fin 256) (e : Fin n), x4 (ix3 0 ⟨o + e, by omega⟩ x) = f ⟨x, by omega⟩ e)
    (h3 : ∀ (x : Fin 2048) (e : Fin n), x3 (ix3 0 ⟨o + e, by omega⟩ x) = f ⟨256 + x, by omega⟩ e) (c : Fin 9) (x : Fin 256) (e : Fin n) :
    (valuesAt (F := Ideal) n x3 x4 o ho c (ix3 0 e x) : EReal) = f ⟨256 * c + x, by omega⟩ e := by
  match c with
  | ⟨0, _⟩ =>
    refine (valuesAt_ctx x3 x4 o ho x e).trans ((h4 x e).trans (congrArg (f · e) (Fin.ext ?_)))
    show x.val = 256 * 0 + x.val
    omega
  | ⟨c + 1, hc⟩ =>
    refine (valuesAt_lat x3 x4 o ho c hc x e).trans ((h3 _ e).trans (congrArg (f · e) (Fin.ext ?_)))
    show 256 + (256 * c + x.val) = 256 * (c + 1) + x.val
    omega

end Cert.KernelIdeal.Out

end
-- ==== Proof.AttnLayout.lean ====
module

public import proofs.«01_k».proof.Proof.Gen.KernelIdeal.Frame
public import Idealize.ShloMosaic.Lib.Pointwise
public import Idealize.ShloMosaic.Lib.Tactic

@[expose] public section

set_option maxHeartbeats 1600000

noncomputable section

open Idealize.ShloMosaic Idealize.ShloMosaic.TcCoe Idealize.SL.Sem

namespace Cert.KernelIdeal.Out

open Cert.KernelIdeal Cert.KernelIdeal.Gen

/-- The queries as the host lays them out: padded, divided, a head's features as rows. -/
def hostQ (a : FVec Ideal S16x2048x8x96 .f32) : FVec Ideal S16x1024x2048 .bf16 :=
  truncf .bf16 (shapeCast S16x1024x2048 (transpose S16x8x128x2048 [0, 2, 3, 1]
    (Host.divf (concatenate S16x2048x8x128 3 [⟨S16x2048x8x96, a⟩, ⟨S16x2048x8x32, broadcastInDim S16x2048x8x32 ![] bcast_S_S16x2048x8x32 (constant S_ .f32 0x00000000#32)⟩] concatenates_S16x2048x8x96_S16x2048x8x32_S16x2048x8x128_d3)
      (broadcastInDim S16x2048x8x128 ![] bcast_S_S16x2048x8x128 (mulf (Host.sqrt (constant S_ .f32 0x42C00000#32)) (Host.log (constant S_ .f32 0x40000000#32)))))
    transposes_S16x2048x8x128_S16x8x128x2048_0_2_3_1) shapeCasts_S16x8x128x2048_S16x1024x2048) bitsLt_bf16_f32

/-- The latent keys as the host lays them out: the head's own, the shared ones, zeros. -/
def hostK (k : FVec Ideal S16x2048x8x64 .f32) (r : FVec Ideal S16x2048x32 .f32) : FVec Ideal S16x2048x1024 .bf16 :=
  truncf .bf16 (shapeCast S16x2048x1024 (concatenate S16x2048x8x128 3 [⟨S16x2048x8x64, k⟩,
    ⟨S16x2048x8x32, broadcastInDim S16x2048x8x32 ![0, 1, 2, 3] bcast_S16x2048x1x32_S16x2048x8x32_0_1_2_3 (broadcastInDim S16x2048x1x32 ![0, 1, 3] bcast_S16x2048x32_S16x2048x1x32_0_1_3 r)⟩,
    ⟨S16x2048x8x32, broadcastInDim S16x2048x8x32 ![] bcast_S_S16x2048x8x32 (constant S_ .f32 0x00000000#32)⟩] concatenates_S16x2048x8x64_S16x2048x8x32_S16x2048x8x32_S16x2048x8x128_d3)
    shapeCasts_S16x2048x8x128_S16x2048x1024) bitsLt_bf16_f32

/-- The context's keys likewise. -/
def hostKx (k : FVec Ideal S16x256x8x64 .f32) (r : FVec Ideal S16x256x32 .f32) : FVec Ideal S16x256x1024 .bf16 :=
  truncf .bf16 (shapeCast S16x256x1024 (concatenate S16x256x8x128 3 [⟨S16x256x8x64, k⟩,
    ⟨S16x256x8x32, broadcastInDim S16x256x8x32 ![0, 1, 2, 3] bcast_S16x256x1x32_S16x256x8x32_0_1_2_3 (broadcastInDim S16x256x1x32 ![0, 1, 3] bcast_S16x256x32_S16x256x1x32_0_1_3 r)⟩,
    ⟨S16x256x8x32, broadcastInDim S16x256x8x32 ![] bcast_S_S16x256x8x32 (constant S_ .f32 0x00000000#32)⟩] concatenates_S16x256x8x64_S16x256x8x32_S16x256x8x32_S16x256x8x128_d3)
    shapeCasts_S16x256x8x128_S16x256x1024) bitsLt_bf16_f32

/-- The latent values as the host lays them out: sixteen ones beside each head's values, turned. -/
def hostV (v : FVec Ideal S16x2048x8x64 .f32) : FVec Ideal S16x640x2048 .bf16 :=
  truncf .bf16 (shapeCast S16x640x2048 (transpose S16x8x80x2048 [0, 2, 3, 1]
    (concatenate S16x2048x8x80 3 [⟨S16x2048x8x64, v⟩, ⟨S16x2048x8x16, broadcastInDim S16x2048x8x16 ![] bcast_S_S16x2048x8x16 (constant S_ .f32 0x3F800000#32)⟩] concatenates_S16x2048x8x64_S16x2048x8x16_S16x2048x8x80_d3)
    transposes_S16x2048x8x80_S16x8x80x2048_0_2_3_1) shapeCasts_S16x8x80x2048_S16x640x2048) bitsLt_bf16_f32

/-- The context's values likewise. -/
def hostVx (v : FVec Ideal S16x256x8x64 .f32) : FVec Ideal S16x640x256 .bf16 :=
  truncf .bf16 (shapeCast S16x640x256 (transpose S16x8x80x256 [0, 2, 3, 1]
    (concatenate S16x256x8x80 3 [⟨S16x256x8x64, v⟩, ⟨S16x256x8x16, broadcastInDim S16x256x8x16 ![] bcast_S_S16x256x8x16 (constant S_ .f32 0x3F800000#32)⟩] concatenates_S16x256x8x64_S16x256x8x16_S16x256x8x80_d3)
    transposes_S16x256x8x80_S16x8x80x256_0_2_3_1) shapeCasts_S16x8x80x256_S16x640x256) bitsLt_bf16_f32

end Cert.KernelIdeal.Out

end
-- ==== Proof.AttnHost.lean ====
module

public import proofs.«01_k».proof.Proof.AttnLayout
public import Idealize.ShloMosaic.Lib.Tactic

@[expose] public section

set_option maxHeartbeats 1600000

noncomputable section

open Idealize.ShloMosaic Idealize.ShloMosaic.TcCoe Idealize.SL.Sem

namespace Cert.KernelIdeal.Out

open Cert.KernelIdeal Cert.KernelIdeal.Gen

variable (m : (ℓ : Loc nD τ sig) → Buf (Elt Ideal) ℓ) (c : Dev nD)

/-! What the host operations before the kernel leave in its five operands. -/

theorem V_q : V m c main_v9 = hostQ (m ((c.tc : Thread nD τ).loc main_arg0)) := by
  unfold_abbrev_sides
  after_results
  rfl

theorem V_k : V m c main_v15 = hostK (m ((c.tc : Thread nD τ).loc main_arg1)) (m ((c.tc : Thread nD τ).loc main_arg2)) := by
  unfold_abbrev_sides
  after_results
  rfl

theorem V_kx : V m c main_v26 = hostKx (m ((c.tc : Thread nD τ).loc main_arg4)) (m ((c.tc : Thread nD τ).loc main_arg5)) := by
  unfold_abbrev_sides
  after_results
  rfl

theorem V_v : V m c main_v20 = hostV (m ((c.tc : Thread nD τ).loc main_arg3)) := by
  unfold_abbrev_sides
  after_results
  rfl

theorem V_vx : V m c main_v31 = hostVx (m ((c.tc : Thread nD τ).loc main_arg6)) := by
  unfold_abbrev_sides
  after_results
  rfl

end Cert.KernelIdeal.Out

end
-- ==== Proof.AttnHostRows.lean ====
module

public import proofs.«01_k».proof.Proof.AttnLayout

@[expose] public section

set_option maxHeartbeats 1600000

noncomputable section

open Idealize.ShloMosaic Idealize.ShloMosaic.TcCoe Idealize.SL.Sem

namespace Cert.KernelIdeal.Out

open Cert.KernelIdeal Cert.KernelIdeal.Gen

/-- A query's feature: divided, and zero past the 96th. -/
theorem hostQ_apply (a : FVec Ideal S16x2048x8x96 .f32) (b : Fin 16) (h : Fin 8) (i : Fin 128) (s : Fin 2048) :
    hostQ a (ix3 b ⟨128 * h + i, by omega⟩ s) = Ideal.div (if hi : i.val < 96 then a (ix4 b s h ⟨i, hi⟩) else 0)
      (Ideal.sqrt (Ideal.ofBits FTy.f32 1119879168#32) * Ideal.log (Ideal.ofBits FTy.f32 1073741824#32)) := by
  unfold hostQ
  pointwise

/-- A latent key's feature: the head's own 64, the shared 32, then zeros. -/
theorem hostK_apply (k : FVec Ideal S16x2048x8x64 .f32) (r : FVec Ideal S16x2048x32 .f32) (b : Fin 16) (h : Fin 8) (i : Fin 128) (s : Fin 2048) :
    hostK k r (ix3 b s ⟨128 * h + i, by omega⟩) = if h1 : i.val < 64 then k (ix4 b s h ⟨i, h1⟩) else if h2 : i.val - 64 < 32 then r (ix3 b s ⟨i.val - 64, h2⟩) else 0 := by
  unfold hostK
  pointwise

/-- A context key's feature. -/
theorem hostKx_apply (k : FVec Ideal S16x256x8x64 .f32) (r : FVec Ideal S16x256x32 .f32) (b : Fin 16) (h : Fin 8) (i : Fin 128) (s : Fin 256) :
    hostKx k r (ix3 b s ⟨128 * h + i, by omega⟩) = if h1 : i.val < 64 then k (ix4 b s h ⟨i, h1⟩) else if h2 : i.val - 64 < 32 then r (ix3 b s ⟨i.val - 64, h2⟩) else 0 := by
  unfold hostKx
  pointwise

/-- A latent value's feature: the head's 64, then ones. -/
theorem hostV_apply (v : FVec Ideal S16x2048x8x64 .f32) (b : Fin 16) (h : Fin 8) (e : Fin 80) (s : Fin 2048) :
    hostV v (ix3 b ⟨80 * h + e, by omega⟩ s) = if he : e.val < 64 then v (ix4 b s h ⟨e, he⟩) else 1 := by
  unfold hostV
  pointwise

/-- A context value's feature. -/
theorem hostVx_apply (v : FVec Ideal S16x256x8x64 .f32) (b : Fin 16) (h : Fin 8) (e : Fin 80) (s : Fin 256) :
    hostVx v (ix3 b ⟨80 * h + e, by omega⟩ s) = if he : e.val < 64 then v (ix4 b s h ⟨e, he⟩) else 1 := by
  unfold hostVx
  pointwise

end Cert.KernelIdeal.Out

end
-- ==== Proof.AttnRef.lean ====
module

public import proofs.«01_k».proof.Proof.Gen.ReferenceIdeal.Read
public import proofs.«01_k».proof.Proof.AttnEq

@[expose] public section

noncomputable section

open Idealize.ShloMosaic Idealize.ShloMosaic.TcCoe Idealize.SL.Sem

namespace Cert.ReferenceIdeal.Rows

open Cert.Attn Cert.ReferenceIdeal Cert.ReferenceIdeal.Gen Cert.ReferenceIdeal.Read

variable (x0 : FVec Ideal S16x2048x8x96 .f32) (x1 : FVec Ideal S16x2048x8x64 .f32) (x2 : FVec Ideal S16x2048x32 .f32) (x3 : FVec Ideal S16x2048x8x64 .f32)
  (x4 : FVec Ideal S16x256x8x64 .f32) (x5 : FVec Ideal S16x256x32 .f32) (x6 : FVec Ideal S16x256x8x64 .f32)

/-- A key's own features, at an index: the context's keys first, then the latent's. -/
theorem v0_apply (b : Fin 16) (k : Fin 2304) (h : Fin 8) (d : Fin 64) : val_main_v0 (F := Ideal) x1 x4 (ix4 b k h d)
    = if hk : k.val < 256 then x4 (ix4 b ⟨k, hk⟩ h d) else x1 (ix4 b ⟨k.val - 256, by omega⟩ h d) := by
  unfold val_main_v0
  pointwise

/-- A key's shared features likewise. -/
theorem v1_apply (b : Fin 16) (k : Fin 2304) (d : Fin 32) : val_main_v1 (F := Ideal) x2 x5 (ix3 b k d)
    = if hk : k.val < 256 then x5 (ix3 b ⟨k, hk⟩ d) else x2 (ix3 b ⟨k.val - 256, by omega⟩ d) := by
  unfold val_main_v1
  pointwise

/-- The values likewise. -/
theorem v2_apply (b : Fin 16) (k : Fin 2304) (h : Fin 8) (d : Fin 64) : val_main_v2 (F := Ideal) x3 x6 (ix4 b k h d)
    = if hk : k.val < 256 then x6 (ix4 b ⟨k, hk⟩ h d) else x3 (ix4 b ⟨k.val - 256, by omega⟩ h d) := by
  unfold val_main_v2
  pointwise

/-- The scores, at an index. -/
theorem v11_apply (b : Fin 16) (h : Fin 8) (s : Fin 2048) (k : Fin 2304) : val_main_v11 (F := Ideal) x0 x1 x2 x4 x5 (ix4 b h s k)
    = scoreRow (fun i => x0 (ix4 b s h i)) (fun d => val_main_v0 (F := Ideal) x1 x4 (ix4 b k h d)) (fun d => val_main_v1 (F := Ideal) x2 x5 (ix3 b k d)) := by
  unfold val_main_v11 val_main_v10 val_main_v9 val_main_cst val_main_v8 val_main_v7 val_main_v6 val_main_v5 val_main_v4 val_main_v3 scoreRow
  pointwise [dot_S16x2048x8x64_S16x2304x8x64_S16x8x2048x2304_3_3_1_1_02_02, dot_S16x2304x32_S16x2048x8x32_S16x2304x2048x8_2_3_1_12_0_0]

/-- A query's maximum is real where its scores are. -/
theorem v12_real (b : Fin 16) (h : Fin 8) (s : Fin 2048) (H : ∀ k, IsReal (val_main_v11 (F := Ideal) x0 x1 x2 x4 x5 (ix4 b h s k))) :
    IsReal (val_main_v12 (F := Ideal) x0 x1 x2 x4 x5 (ix3 b h s)) := by
  unfold val_main_v12
  revert H
  generalize val_main_v11 (F := Ideal) x0 x1 x2 x4 x5 = y
  intro H
  rw [Host.reduce_eq_fold]
  refine Eq.subst (motive := IsReal) (Shape.ReducesTo.fold_fiber_r4_a3 (n0 := 16) (n1 := 8) (n2 := 2048) (n3 := 2304) _ _ _ _ _).symm ?_
  exact isReal_fold (by decide) _ H

/-- The weights before they are divided. -/
theorem v18_apply (b : Fin 16) (h : Fin 8) (s : Fin 2048) (k : Fin 2304) : val_main_v18 (F := Ideal) x0 x1 x2 x4 x5 (ix4 b h s k)
    = Ideal.exp (val_main_v11 (F := Ideal) x0 x1 x2 x4 x5 (ix4 b h s k) - max (Ideal.ofBits FTy.f32 4286578688#32) (val_main_v12 (F := Ideal) x0 x1 x2 x4 x5 (ix3 b h s))) := by
  rw [val_main_v18_apply, val_main_v17_apply, val_main_v16_apply, val_main_v15_apply, val_main_v14_apply, val_main_v13_apply, val_main_cst_1_apply]
  generalize val_main_v12 (F := Ideal) x0 x1 x2 x4 x5 = y
  generalize val_main_v11 (F := Ideal) x0 x1 x2 x4 x5 = z
  have e : idx_main_v15 (idx_main_v16 (ix4 b h s k)) = ix3 b h s := by
    funext a
    match a with
    | ⟨0, _⟩ => rfl
    | ⟨1, _⟩ => rfl
    | ⟨2, _⟩ => rfl
  rw [e, Ideal.maximumf_eq_max, Ideal.hostUnary_exp_def]
  rfl

/-- The weights. -/
theorem v22_apply (b : Fin 16) (h : Fin 8) (s : Fin 2048) (k : Fin 2304) : val_main_v22 (F := Ideal) x0 x1 x2 x4 x5 (ix4 b h s k)
    = Ideal.div (val_main_v18 (F := Ideal) x0 x1 x2 x4 x5 (ix4 b h s k)) (∑ y, val_main_v18 (F := Ideal) x0 x1 x2 x4 x5 (ix4 b h s y)) := by
  unfold val_main_v22 val_main_v21 val_main_v20 val_main_v19 val_main_cst_2
  generalize val_main_v18 (F := Ideal) x0 x1 x2 x4 x5 = y
  pointwise

/-- The result, at an index. -/
theorem v26_apply (b : Fin 16) (s : Fin 2048) (d : Fin 512) : val_main_v26 (F := Ideal) x0 x1 x2 x3 x4 x5 x6 (ix3 b s d)
    = ∑ x, val_main_v2 (F := Ideal) x3 x6 (ix4 b x ⟨d.val / 64, by omega⟩ ⟨d.val % 64, by omega⟩)
      * val_main_v22 (F := Ideal) x0 x1 x2 x4 x5 (ix4 b ⟨d.val / 64, by omega⟩ s x) := by
  unfold val_main_v26 val_main_v25 val_main_v24 val_main_v23
  generalize val_main_v22 (F := Ideal) x0 x1 x2 x4 x5 = y
  generalize val_main_v2 (F := Ideal) x3 x6 = z
  pointwise [dot_S16x2304x8x64_S16x8x2048x2304_S16x8x64x2048_1_3_3_2_02_01]

end Cert.ReferenceIdeal.Rows

end
-- ==== Proof.AttnPoint.lean ====
module

public import proofs.«01_k».proof.Proof.AttnTile
public import proofs.«01_k».proof.Proof.AttnRows
public import proofs.«01_k».proof.Proof.AttnHost
public import proofs.«01_k».proof.Proof.AttnHostRows
public import proofs.«01_k».proof.Proof.AttnRef
public import proofs.«01_k».proof.Proof.Gen.KernelIdeal.Value
public import proofs.«01_k».proof.Proof.Gen.ReferenceIdeal.Run
public import Idealize.ShloMosaic.Lib.Pipeline.ValueKit.Point

@[expose] public section

set_option maxHeartbeats 1600000

noncomputable section

open Idealize.ShloMosaic Idealize.ShloMosaic.TcCoe Idealize.SL.Sem

/-! The attention kernel's body at an entry of one block: with finite queries and keys it is the reference's result. -/

namespace Cert.KernelIdeal.Out

open Cert.Attn Cert.KernelIdeal Cert.KernelIdeal.Gen Cert.ReferenceIdeal.Rows Cert.ReferenceIdeal.Read

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![(grid0.coords t 0).val, (grid0.coords t 1).val, 0] :=
  (by decide +kernel : ∀ t : Fin grid0.N, _)

section
variable (x0 : FVec Ideal S1x1024x1024 .bf16) (x1 : FVec Ideal S1x2048x1024 .bf16) (x2 : FVec Ideal S1x256x1024 .bf16) (x3 : FVec Ideal S1x640x2048 .bf16) (x4 : FVec Ideal S1x640x256 .bf16)

theorem queriesAt_apply (h : Fin 8) (p : ℕ) (hp : p + 512 ≤ 1024) (i : Fin 128) (t : Fin 512) :
    queriesAt x0 (128 * h.val) p (slices_head h p hp) (ix2 i t) = x0 (ix3 0 ⟨128 * h + i, by omega⟩ ⟨p + t, by omega⟩) := by
  unfold queriesAt
  pointwise

variable (A0 : FVec Ideal S16x2048x8x96 .f32) (A1 : FVec Ideal S16x2048x8x64 .f32) (A2 : FVec Ideal S16x2048x32 .f32) (A3 : FVec Ideal S16x2048x8x64 .f32)
  (A4 : FVec Ideal S16x256x8x64 .f32) (A5 : FVec Ideal S16x256x32 .f32) (A6 : FVec Ideal S16x256x8x64 .f32) (b : Fin 16)

/-- A chunk's key, feature by feature, is the reference's key of that number. -/
theorem key_eq (h1 : ∀ s j, x1 (ix3 0 s j) = hostK A1 A2 (ix3 b s j)) (h2 : ∀ s j, x2 (ix3 0 s j) = hostKx A4 A5 (ix3 b s j)) (h : Fin 8) (c : Fin 9) (x : Fin 256) (i : Fin 128) :
    (keysAt (F := Ideal) x1 x2 (128 * h.val) (by omega) c (ix3 0 x i) : EReal)
      = if h1 : i.val < 64 then val_main_v0 (F := Ideal) A1 A4 (ix4 b ⟨256 * c + x, by omega⟩ h ⟨i, h1⟩)
        else if h2 : i.val - 64 < 32 then val_main_v1 (F := Ideal) A2 A5 (ix3 b ⟨256 * c + x, by omega⟩ ⟨i.val - 64, h2⟩) else 0 := by
  simp only [v0_apply, v1_apply]
  match c with
  | ⟨0, _⟩ =>
    refine (keysAt_ctx x1 x2 (128 * h.val) (by omega) x i).trans ?_
    rw [h2, hostKx_apply]
    simp only [Fin.is_lt, dite_true, Nat.mul_zero, Nat.zero_add, Fin.eta]
  | ⟨c + 1, hc⟩ =>
    refine (keysAt_lat x1 x2 (128 * h.val) (by omega) c hc x i).trans ?_
    have e : ¬ 256 * (c + 1) + x.val < 256 := by omega
    have e' : 256 * (c + 1) + x.val - 256 = 256 * c + x.val := by omega
    rw [h1, hostK_apply]
    simp only [e, dite_false, e']

/-- A chunk's value, feature by feature, is the reference's value of that number; the rows past the 64th are ones. -/
theorem value_eq (h3 : ∀ j s, x3 (ix3 0 j s) = hostV A3 (ix3 b j s)) (h4 : ∀ j s, x4 (ix3 0 j s) = hostVx A6 (ix3 b j s)) (h : Fin 8) (c : Fin 9) (x : Fin 256) (e : Fin 80) :
    (valuesAt (F := Ideal) 80 x3 x4 (80 * h.val) (by omega) c (ix3 0 e x) : EReal)
      = if he : e.val < 64 then val_main_v2 (F := Ideal) A3 A6 (ix4 b ⟨256 * c + x, by omega⟩ h ⟨e, he⟩) else 1 := by
  simp only [v2_apply]
  match c with
  | ⟨0, _⟩ =>
    refine (valuesAt_ctx x3 x4 (80 * h.val) (by omega) x e).trans ?_
    rw [h4, hostVx_apply]
    simp only [Fin.is_lt, dite_true, Nat.mul_zero, Nat.zero_add, Fin.eta]
  | ⟨c + 1, hc⟩ =>
    refine (valuesAt_lat x3 x4 (80 * h.val) (by omega) c hc x e).trans ?_
    have e : ¬ 256 * (c + 1) + x.val < 256 := by omega
    have e' : 256 * (c + 1) + x.val - 256 = 256 * c + x.val := by omega
    rw [h3, hostV_apply]
    simp only [e, dite_false, e']

/-- The finiteness the attention needs: of the queries and of the keys. -/
structure Finite : Prop where
  q : ∀ i, IsReal (A0 i)
  kn : ∀ i, IsReal (A1 i)
  kr : ∀ i, IsReal (A2 i)
  kxn : ∀ i, IsReal (A4 i)
  kxr : ∀ i, IsReal (A5 i)

variable (fin : Finite A0 A1 A2 A4 A5)
include fin

theorem v0_real (i : Fin 16) (k : Fin 2304) (h : Fin 8) (d : Fin 64) : IsReal (val_main_v0 (F := Ideal) A1 A4 (ix4 i k h d)) := by
  rw [v0_apply]
  split_ifs
  · exact fin.kxn _
  · exact fin.kn _

theorem v1_real (i : Fin 16) (k : Fin 2304) (d : Fin 32) : IsReal (val_main_v1 (F := Ideal) A2 A5 (ix3 i k d)) := by
  rw [v1_apply]
  split_ifs
  · exact fin.kxr _
  · exact fin.kr _

/-- One entry of one head: the kernel's is the reference's softmax-weighted sum. -/
theorem head_eq (ρ : Fin 1024 → Fin 2048) (h0 : ∀ j r, x0 (ix3 0 j r) = hostQ A0 (ix3 b j (ρ r)))
    (h1 : ∀ s j, x1 (ix3 0 s j) = hostK A1 A2 (ix3 b s j)) (h2 : ∀ s j, x2 (ix3 0 s j) = hostKx A4 A5 (ix3 b s j))
    (h3 : ∀ j s, x3 (ix3 0 j s) = hostV A3 (ix3 b j s)) (h4 : ∀ j s, x4 (ix3 0 j s) = hostVx A6 (ix3 b j s))
    (p : ℕ) (hp : p + 512 ≤ 1024) (h : Fin 8) (e : Fin 64) (t : Fin 512) (M : EReal) (hM : IsReal M) :
    (headAt (F := Ideal) x0 x1 x2 x3 x4 p hp h (ix2 e t) : EReal)
      = softRow (fun k => val_main_v11 (F := Ideal) A0 A1 A2 A4 A5 (ix4 b h (ρ ⟨p + t, by omega⟩) k)) (fun k => val_main_v2 (F := Ideal) A3 A6 (ix4 b k h e)) M := by
  simp only [v11_apply]
  unfold headAt
  refine unit_apply (by decide) _ _ _ e t _ (fun k => padScore (fun i => A0 (ix4 b (ρ ⟨p + t, by omega⟩) h i)) (fun d => val_main_v0 (F := Ideal) A1 A4 (ix4 b k h d))
    (fun d => val_main_v1 (F := Ideal) A2 A5 (ix3 b k d))) _ M hM (fun k => ?_) (fun c x => ?_) (fun c x => ?_) (fun c x => ?_)
  · exact score_eq _ _ _ (fun i => fin.q _) (fun d => v0_real A0 A1 A2 A4 A5 fin b k h d) (fun d => v1_real A0 A1 A2 A4 A5 fin b k d)
  · rw [score_apply]
    unfold padScore
    refine Finset.sum_congr rfl fun i _ => ?_
    rw [key_eq x1 x2 A1 A2 A4 A5 b h1 h2, queriesAt_apply x0 h p hp, h0, hostQ_apply]
  · rw [value_eq x3 x4 A3 A6 b h3 h4]
    exact dif_pos e.isLt
  · rw [value_eq x3 x4 A3 A6 b h3 h4]
    exact dif_neg (by decide)

theorem max_real (h : Fin 8) (s : Fin 2048) : IsReal (max (Ideal.ofBits FTy.f32 4286578688#32) (val_main_v12 (F := Ideal) A0 A1 A2 A4 A5 (ix3 b h s))) := by
  rw [negInf, max_eq_right bot_le]
  refine v12_real A0 A1 A2 A4 A5 b h s fun k => ?_
  rw [v11_apply]
  obtain ⟨r, hr, _⟩ := score_eq _ _ _ (fun i => fin.q _) (fun d => v0_real A0 A1 A2 A4 A5 fin b k h d) (fun d => v1_real A0 A1 A2 A4 A5 fin b k d)
  exact ⟨r, hr⟩

theorem ref_eq (s : Fin 2048) (d : Fin 512) : val_main_v26 (F := Ideal) A0 A1 A2 A3 A4 A5 A6 (ix3 b s d)
    = softRow (fun k => val_main_v11 (F := Ideal) A0 A1 A2 A4 A5 (ix4 b ⟨d.val / 64, by omega⟩ s k)) (fun k => val_main_v2 (F := Ideal) A3 A6 (ix4 b k ⟨d.val / 64, by omega⟩ ⟨d.val % 64, by omega⟩))
        (max (Ideal.ofBits FTy.f32 4286578688#32) (val_main_v12 (F := Ideal) A0 A1 A2 A4 A5 (ix3 b ⟨d.val / 64, by omega⟩ s))) := by
  rw [v26_apply]
  simp only [v22_apply, v18_apply]
  rfl

variable (c : Dev nD) (arg2 : Memref sig .tc .vmem S1x1024x1024 .bf16) (harg2 : arg2.IsWhole) (arg3 : Memref sig .tc .vmem S1x2048x1024 .bf16) (harg3 : arg3.IsWhole)
  (arg4 : Memref sig .tc .vmem S1x256x1024 .bf16) (harg4 : arg4.IsWhole) (arg5 : Memref sig .tc .vmem S1x640x2048 .bf16) (harg5 : arg5.IsWhole)
  (arg6 : Memref sig .tc .vmem S1x640x256 .bf16) (harg6 : arg6.IsWhole) (arg8 : Memref sig .tc .vmem S2x2304x512 .f32) (arg9 : Memref sig .tc .vmem S2x2304x512 .bf16)

/-- Where the blocks are the host's arrays at batch `b` and queries `ρ`, the body's block is the reference's. -/
theorem point (i : grid0.Coords) (arg7 : Memref sig .tc .vmem S1x1024x512 .bf16) (harg7 : arg7.IsWhole) (harg8 : arg8.IsWhole) (harg9 : arg9.IsWhole) (ρ : Fin 1024 → Fin 2048)
    (X0 : FVec Ideal S16x1024x2048 .bf16) (X1 : FVec Ideal S16x2048x1024 .bf16) (X2 : FVec Ideal S16x256x1024 .bf16) (X3 : FVec Ideal S16x640x2048 .bf16) (X4 : FVec Ideal S16x640x256 .bf16)
    (e0 : X0 = hostQ A0) (e1 : X1 = hostK A1 A2) (e2 : X2 = hostKx A4 A5) (e3 : X3 = hostV A3) (e4 : X4 = hostVx A6)
    (h0 : ∀ j r, x0 (ix3 0 j r) = X0 (ix3 b j (ρ r)))
    (h1 : ∀ s j, x1 (ix3 0 s j) = X1 (ix3 b s j)) (h2 : ∀ s j, x2 (ix3 0 s j) = X2 (ix3 b s j))
    (h3 : ∀ j s, x3 (ix3 0 j s) = X3 (ix3 b j s)) (h4 : ∀ j s, x4 (ix3 0 j s) = X4 (ix3 b j s)) (r : Fin 1024) (d : Fin 512) :
    (out0_A_5 (F := Ideal) c i arg2 harg2 arg3 harg3 arg4 harg4 arg5 harg5 arg6 harg6 arg7 harg7 arg8 harg8 arg9 harg9 x0 x1 x2 x3 x4 (ix3 (0 : Fin 1) r d) : EReal)
      = val_main_v26 (F := Ideal) A0 A1 A2 A3 A4 A5 A6 (ix3 b (ρ r) d) := by
  subst e0 e1 e2 e3 e4
  have key (p : ℕ) (hp : p + 512 ≤ 1024) (hp' : p = 0 ∨ p = 512) (t : Fin 512) (hr : r = ⟨p + t, by omega⟩) :
      (out0_A_5 (F := Ideal) c i arg2 harg2 arg3 harg3 arg4 harg4 arg5 harg5 arg6 harg6 arg7 harg7 arg8 harg8 arg9 harg9 x0 x1 x2 x3 x4 (ix3 (0 : Fin 1) r d) : EReal)
        = val_main_v26 (F := Ideal) A0 A1 A2 A3 A4 A5 A6 (ix3 b (ρ r) d) := by
    subst hr
    rw [out_apply _ _ _ _ _ _ _ _ _ _ _ _ _ _ _ _ _ _ _ _ _ _ _ p hp hp' t d, ref_eq A0 A1 A2 A3 A4 A5 A6 b fin]
    exact head_eq x0 x1 x2 x3 x4 A0 A1 A2 A3 A4 A5 A6 b fin ρ h0 h1 h2 h3 h4 p hp _ _ t _ (max_real A0 A1 A2 A4 A5 b fin _ _)
  by_cases hr : r.val < 512
  · exact key 0 (by omega) (.inl rfl) ⟨r.val, hr⟩ (Fin.ext (Nat.zero_add _).symm)
  · exact key 512 (by omega) (.inr rfl) ⟨r.val - 512, by omega⟩ (Fin.ext (by show r.val = 512 + (r.val - 512); omega))

end

end Cert.KernelIdeal.Out

end
-- ==== Proof.AttnArray.lean ====
module

public import proofs.«01_k».proof.Proof.AttnPoint

@[expose] public section

set_option maxHeartbeats 1600000

noncomputable section

open Idealize.ShloMosaic Idealize.ShloMosaic.TcCoe Idealize.SL.Sem

/-! The attention kernel's blocks, put together: with finite queries and keys the result array is the reference's. -/

namespace Cert.KernelIdeal.Out

open Cert.Attn Cert.KernelIdeal Cert.KernelIdeal.Gen Cert.ReferenceIdeal.Rows Cert.ReferenceIdeal.Read

variable (m : (ℓ : Loc nD τ sig) → Buf (Elt Ideal) ℓ) (c : Dev nD)

/-- The batch of a grid point. -/
def batch (t : Fin cfg0.N) : Fin 16 := ⟨(grid0.coords t 0).val, (grid0.coords t 0).isLt⟩

/-- The latent token of row `r` of a grid point's queries. -/
def token (t : Fin cfg0.N) (r : Fin 1024) : Fin 2048 :=
  ⟨(grid0.coords t 1).val * 1024 + r, by have : (grid0.coords t 1).val < 2 := (grid0.coords t 1).isLt; omega⟩

/-- The block of queries. -/
theorem block0 (t : Fin cfg0.N) (j r : Fin 1024) : iblk m c 0 t (ix3 (0 : Fin 1) j r) = V m c main_v9 (ix3 (batch t) j (token t r)) := by
  unfold iblk
  generalize V m c main_v9 = X
  have e : ((cfg0.win 0).blk t).view.emb (ix3 (0 : Fin 1) j r) = ix3 (batch t) j (token t r) := by
    funext a
    apply Fin.ext
    match a with
    | ⟨0, _⟩ => blk_simp [idx0 t, batch, token]; try rfl
    | ⟨1, _⟩ => blk_simp [idx0 t, batch, token]; try rfl
    | ⟨2, _⟩ => blk_simp [idx0 t, batch, token]; try rfl
  rw [View.read_apply, e]
  exact cast_eq _ _

/-- The block of latent keys. -/
theorem block1 (t : Fin cfg0.N) (s : Fin 2048) (j : Fin 1024) : iblk m c 1 t (ix3 (0 : Fin 1) s j) = V m c main_v15 (ix3 (batch t) s j) := by
  unfold iblk
  generalize V m c main_v15 = X
  have e : ((cfg0.win 1).blk t).view.emb (ix3 (0 : Fin 1) s j) = ix3 (batch t) s j := by
    funext a
    apply Fin.ext
    match a with
    | ⟨0, _⟩ => blk_simp [idx1 t, batch, token]; try rfl
    | ⟨1, _⟩ => blk_simp [idx1 t, batch, token]; try rfl
    | ⟨2, _⟩ => blk_simp [idx1 t, batch, token]; try rfl
  rw [View.read_apply, e]
  exact cast_eq _ _

/-- The block of context keys. -/
theorem block2 (t : Fin cfg0.N) (s : Fin 256) (j : Fin 1024) : iblk m c 2 t (ix3 (0 : Fin 1) s j) = V m c main_v26 (ix3 (batch t) s j) := by
  unfold iblk
  generalize V m c main_v26 = X
  have e : ((cfg0.win 2).blk t).view.emb (ix3 (0 : Fin 1) s j) = ix3 (batch t) s j := by
    funext a
    apply Fin.ext
    match a with
    | ⟨0, _⟩ => blk_simp [idx2 t, batch, token]; try rfl
    | ⟨1, _⟩ => blk_simp [idx2 t, batch, token]; try rfl
    | ⟨2, _⟩ => blk_simp [idx2 t, batch, token]; try rfl
  rw [View.read_apply, e]
  exact cast_eq _ _

/-- The block of latent values. -/
theorem block3 (t : Fin cfg0.N) (j : Fin 640) (s : Fin 2048) : iblk m c 3 t (ix3 (0 : Fin 1) j s) = V m c main_v20 (ix3 (batch t) j s) := by
  unfold iblk
  generalize V m c main_v20 = X
  have e : ((cfg0.win 3).blk t).view.emb (ix3 (0 : Fin 1) j s) = ix3 (batch t) j s := by
    funext a
    apply Fin.ext
    match a with
    | ⟨0, _⟩ => blk_simp [idx3 t, batch, token]; try rfl
    | ⟨1, _⟩ => blk_simp [idx3 t, batch, token]; try rfl
    | ⟨2, _⟩ => blk_simp [idx3 t, batch, token]; try rfl
  rw [View.read_apply, e]
  exact cast_eq _ _

/-- The block of context values. -/
theorem block4 (t : Fin cfg0.N) (j : Fin 640) (s : Fin 256) : iblk m c 4 t (ix3 (0 : Fin 1) j s) = V m c main_v31 (ix3 (batch t) j s) := by
  unfold iblk
  generalize V m c main_v31 = X
  have e : ((cfg0.win 4).blk t).view.emb (ix3 (0 : Fin 1) j s) = ix3 (batch t) j s := by
    funext a
    apply Fin.ext
    match a with
    | ⟨0, _⟩ => blk_simp [idx4 t, batch, token]; try rfl
    | ⟨1, _⟩ => blk_simp [idx4 t, batch, token]; try rfl
    | ⟨2, _⟩ => blk_simp [idx4 t, batch, token]; try rfl
  rw [View.read_apply, e]
  exact cast_eq _ _

/-- With finite queries and keys, the kernel's result array is the reference's result over the same arguments. -/
theorem final (fin : Finite (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5))) :
    (dats m 0 c).arrAt 5 cfg0.N = val_main_v26 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  refine (dats m 0 c).arrAt_eq_of_covers 5 _ (by decide +kernel) fun t hf y => ?_
  have e := congrFun (Value.flushed5_A m c t) y
  refine e.trans ?_
  rw [Pipeline.Window.cut_apply]
  have hy1 : ((y 1 : ℕ)) < 1024 := (y 1).isLt
  have hy2 : ((y 2 : ℕ)) < 512 := (y 2).isLt
  have ht0 : (grid0.coords t 0).val < 16 := (grid0.coords t 0).isLt
  have ht1 : (grid0.coords t 1).val < 2 := (grid0.coords t 1).isLt
  have hb : (cfg0.win 5).xinj (grid0.coords t) y = ix3 (0 : Fin 1) (⟨y 1, hy1⟩ : Fin 1024) (⟨y 2, hy2⟩ : Fin 512) := by
    funext a
    match a with
    | ⟨0, _⟩ => exact Subsingleton.elim (α := Fin 1) _ _
    | ⟨1, _⟩ => rfl
    | ⟨2, _⟩ => rfl
  have ha : ((cfg0.win 5).blk t).view.emb y = ix3 (⟨(grid0.coords t 0).val, ht0⟩ : Fin 16)
      (⟨(grid0.coords t 1).val * 1024 + (⟨y 1, hy1⟩ : Fin 1024), by omega⟩ : Fin 2048) (⟨y 2, hy2⟩ : Fin 512) := by
    funext a
    apply Fin.ext
    match a with
    | ⟨0, _⟩ => blk_simp [idx5 t]
    | ⟨1, _⟩ => blk_simp [idx5 t]; rfl
    | ⟨2, _⟩ => blk_simp [idx5 t]; rfl
  rw [hb, ha]
  exact point _ _ _ _ _ _ _ _ _ _ _ _ (batch t) fin _ _ _ _ _ _ _ _ _ _ _ _ _ _ _ _ _ _ (token t)
    (V m c main_v9) (V m c main_v15) (V m c main_v26) (V m c main_v20) (V m c main_v31) (V_q m c) (V_k m c) (V_kx m c) (V_v m c) (V_vx m c)
    (block0 m c t) (block1 m c t) (block2 m c t) (block3 m c t) (block4 m c t) _ _

end Cert.KernelIdeal.Out

end
-- ==== Proof.AttnClaims.lean ====
module

public import proofs.«01_k».proof.Defs
public import proofs.«01_k».proof.Proof.AttnArray
public import proofs.«01_k».proof.Proof.Gen.Pre_queries_and_keys_finite
public import proofs.«01_k».proof.Proof.Gen.Kernel.Frame
public import Idealize.ShloMosaic.Adequacy
public import Idealize.ShloMosaic.Init

@[expose] public section

noncomputable section

open Idealize.ShloMosaic Idealize.SL.Sem

/-! The claims of the attention: the reference's frame, and the value claim with finite queries and keys. -/

namespace Cert.Attn

/-- A magnitude below plus infinity is a real number's. -/
theorem isReal_of_abs (x : EReal) (h : Ideal.cmp .olt (max x (-x)) (Ideal.ofBits FTy.f32 0x7F800000#32) = 1#1) : IsReal x := by
  have e : Ideal.ofBits FTy.f32 0x7F800000#32 = ⊤ := by simp [Ideal.ofBits, Ideal.ieee]
  rw [e] at h
  induction x with
  | bot => simp [Ideal.cmp] at h
  | top => simp [Ideal.cmp] at h
  | coe r => exact ⟨r, rfl⟩

/-- An array whose every magnitude compares below plus infinity is real at every index. -/
theorem isReal_of_mask {s u : Shape} (d : Fin u.rank → Fin s.rank) (hd : u.BroadcastsInDim s d) (x : FVec Ideal s .f32)
    (h : cmpf .olt (Host.absf x) (broadcastInDim s d hd (constant (F := Ideal) u .f32 0x7F800000#32)) = fun _ => 1#1) (i : s.Idx) : IsReal (x i) :=
  isReal_of_abs _ (congrFun h i)

theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- With finite queries and keys, kernel and reference end with the same array. -/
theorem algebraic1 : Cert.algebraic_KernelIdeal_ReferenceIdeal_pre_queries_and_keys_finite := by
  intro m ρ m' ρ' hpre hagree
  refine ⟨fun c => (Cert.KernelIdeal.Gen.dats m 0 c).arrAt 5 Cert.KernelIdeal.cfg0.N, Cert.KernelIdeal.Value.run_blocks m ρ, ?_⟩
  refine (θ_run _ _ _).mono (fun _ h c => ⟨(h c).1.trans ?_, (h c).2⟩) (Cert.ReferenceIdeal.Value.run (F := Ideal) m' ρ')
  obtain ⟨h0, h1, h2, h3, h4, h5, h6⟩ := hagree c
  obtain ⟨p0, p1, p2, p4, p5⟩ := hpre c
  refine (Cert.ReferenceIdeal.Read.val_main_v26_eq m' c).trans (Eq.trans ?_ (Cert.KernelIdeal.Out.final m c
    ⟨isReal_of_mask _ _ _ p0, isReal_of_mask _ _ _ p1, isReal_of_mask _ _ _ p2, isReal_of_mask _ _ _ p4, isReal_of_mask _ _ _ p5⟩).symm)
  rw [h0, h1, h2, h3, h4, h5, h6]

end Cert.Attn

end
-- ==== Proof.DiffRun.lean ====
module

public import proofs.«01_k».proof.Proof.AttnUnit
public import proofs.«01_k».proof.Proof.Gen.Kernel6Ideal.Frame
public import Idealize.ShloMosaic.Lib.Pipeline.Value
public import Idealize.ShloMosaic.Lib.Pipeline.ReadBack
public import Idealize.ShloMosaic.Lib.Tactic

@[expose] public section

noncomputable section

open Idealize.ShloMosaic Idealize.ShloMosaic.TcCoe Idealize.SL.Sem

/-! The differential attention's body: each head is the difference of two units of the attention, normalised. -/

namespace Cert.Kernel6Ideal.Out

open Cert.Kernel6Ideal Cert.Kernel6Ideal.Gen
open Cert.KernelIdeal.Out (unit keysAt valuesAt turned)
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The product of two of the four vectors, summed. -/
def dotOf (x0 : Vec F S4x64 .f32) (i j : ℕ) (hi : S4x64.Slices ![i, 0] S1x64) (hj : S4x64.Slices ![j, 0] S1x64) : FVec F S1x1 .f32 :=
  shapeCast S1x1 (multiReduction .add [1] S1 (mulf (extractStridedSlice S1x64 ![i, 0] x0 hi) (extractStridedSlice S1x64 ![j, 0] x0 hj))
    0x00000000#32 reduces_S1x64_S1 (.inl rfl) rfl) shapeCasts_S1_S1x1

/-- The second softmax's weight. -/
def lam (x0 : Vec F S4x64 .f32) : FVec F S1x1 .f32 :=
  addf (subf (exp (dotOf x0 0 1 slices_S4x64_o0_0_S1x64 slices_S4x64_o1_0_S1x64)) (exp (dotOf x0 2 3 slices_S4x64_o2_0_S1x64 slices_S4x64_o3_0_S1x64)))
    (broadcast S1x1 (Scalar.ofBits .f32 0x3E4CCCCD#32))

/-- The gain times the share left by the second softmax. -/
def gain (x1 : Vec F S128x1 .f32) : FVec F S128x1 .f32 :=
  mulf (shapeCast S128x1 x1 shapeCasts_S128x1_S128x1) (broadcast S128x1 (Scalar.ofBits .f32 0x3F4CCCCD#32))

/-- The difference of two maps. -/
def diff (l : FVec F S1x1 .f32) (a b : FVec F S128x512 .f32) : FVec F S128x512 .f32 :=
  subf a (mulf (broadcastTo S128x512 l broadcasts_S1x1_S128x512) b)

/-- Each query's column normalised by its root mean square, with a gain. -/
def rms (g : FVec F S128x1 .f32) (z : FVec F S128x512 .f32) : FVec F S128x512 .f32 :=
  mulf (mulf z (broadcastTo S128x512 (rsqrt (addf (divf (shapeCast S1x512 (multiReduction .add [0] S512 (mulf z z) 0x00000000#32
    reduces_S128x512_S512 (.inl rfl) rfl) shapeCasts_S512_S1x512) (broadcast S1x512 (Scalar.ofBits .f32 0x43000000#32)))
    (broadcast S1x512 (Scalar.ofBits .f32 0x358637BD#32)))) broadcasts_S1x512_S128x512)) (broadcastTo S128x512 g broadcasts_S128x1_S128x512)

/-- 64 rows of the queries of one tile. -/
def queriesOf (x2 : Vec F S1x512x1024 .bf16) (o p : ℕ) (h : S512x1024.Slices ![o, p] S64x512) : FVec F S64x512 .bf16 :=
  extractStridedSlice S64x512 ![o, p] (shapeCast S512x1024 x2 shapeCasts_S1x512x1024_S512x1024) h

/-- Sixty-four zero rows. -/
def zeros : FVec F S64x512 .bf16 := broadcast S64x512 (Scalar.ofBits .bf16 0x0000#16)

/-- A head's first map's queries, over zeros. -/
def lower (q : FVec F S64x512 .bf16) : FVec F S128x512 .bf16 :=
  concatenate S128x512 0 [⟨S64x512, q⟩, ⟨S64x512, zeros⟩] concatenates_S64x512_S64x512_S128x512_d0

/-- A head's second map's queries, under zeros. -/
def upper (q : FVec F S64x512 .bf16) : FVec F S128x512 .bf16 :=
  concatenate S128x512 0 [⟨S64x512, zeros⟩, ⟨S64x512, q⟩] concatenates_S64x512_S64x512_S128x512_d0

variable (c : Dev nD) (arg2 : Memref sig .tc .vmem S4x64 .f32) (harg2 : arg2.IsWhole) (arg3 : Memref sig .tc .vmem S128x1 .f32) (harg3 : arg3.IsWhole)
  (arg4 : Memref sig .tc .vmem S1x512x1024 .bf16) (harg4 : arg4.IsWhole) (arg5 : Memref sig .tc .vmem S1x2048x512 .bf16) (harg5 : arg5.IsWhole)
  (arg6 : Memref sig .tc .vmem S1x256x512 .bf16) (harg6 : arg6.IsWhole) (arg7 : Memref sig .tc .vmem S1x576x2048 .bf16) (harg7 : arg7.IsWhole)
  (arg8 : Memref sig .tc .vmem S1x576x256 .bf16) (harg8 : arg8.IsWhole)
  (arg10 : Memref sig .tc .vmem S2x2304x512 .f32) (arg11 : Memref sig .tc .vmem S2x2304x512 .bf16)
  (x0 : Vec F S4x64 .f32) (x1 : Vec F S128x1 .f32) (x2 : Vec F S1x512x1024 .bf16) (x3 : Vec F S1x2048x512 .bf16) (x4 : Vec F S1x256x512 .bf16)
  (x5 : Vec F S1x576x2048 .bf16) (x6 : Vec F S1x576x256 .bf16)

set_option maxHeartbeats 4000000
set_option maxRecDepth 10000

/-- The offsets of a map's queries in the block. -/
theorem slices_map (o : ℕ) (ho : o + 64 ≤ 512) (p : ℕ) (hp : p + 512 ≤ 1024) : S512x1024.Slices ![o, p] S64x512 :=
  ⟨rfl, fun a => by fin_cases a <;> simp [S512x1024, S64x512] <;> omega⟩

/-- The first map of head `h` of the tile of queries at `p`. -/
def mapA (p : ℕ) (hp : p + 512 ≤ 1024) (h : Fin 4) : FVec F S128x512 .f32 :=
  unit 128 (by decide) (lower (queriesOf x2 (128 * h.val) p (slices_map _ (by omega) p hp))) (keysAt x3 x4 (128 * h.val) (by omega)) (valuesAt 144 x5 x6 (144 * h.val) (by omega))

/-- The second map of that head. -/
def mapB (p : ℕ) (hp : p + 512 ≤ 1024) (h : Fin 4) : FVec F S128x512 .f32 :=
  unit 128 (by decide) (upper (queriesOf x2 (128 * h.val + 64) p (slices_map _ (by omega) p hp))) (keysAt x3 x4 (128 * h.val) (by omega)) (valuesAt 144 x5 x6 (144 * h.val) (by omega))

/-- Head `h` of the tile of queries at `p`. -/
def headOf (p : ℕ) (hp : p + 512 ≤ 1024) (h : Fin 4) : FVec F S128x512 .f32 :=
  rms (gain x1) (diff (lam x0) (mapA x2 x3 x4 x5 x6 p hp h) (mapB x2 x3 x4 x5 x6 p hp h))

/-- The four heads of a tile, one above the other. -/
def tileOf (f : Fin 4 → FVec F S128x512 .f32) : FVec F S512x512 .f32 :=
  concatenate S512x512 0 (List.ofFn fun h => ⟨S128x512, f h⟩) concatenates_S128x512_S128x512_S128x512_S128x512_S512x512_d0

/-- What the body leaves in the output's buffer, as a term of the input blocks. -/
theorem out_A (i : grid0.Coords) (arg9 : Memref sig .tc .vmem S1x1024x512 .bf16) (harg9 : arg9.IsWhole) (harg10 : arg10.IsWhole) (harg11 : arg11.IsWhole) :
    out0_A_7 c i arg2 harg2 arg3 harg3 arg4 harg4 arg5 harg5 arg6 harg6 arg7 harg7 arg8 harg8 arg9 harg9 arg10 harg10 arg11 harg11 x0 x1 x2 x3 x4 x5 x6 =
      turned (tileOf (headOf x0 x1 x2 x3 x4 x5 x6 0 (by omega))) (tileOf (headOf x0 x1 x2 x3 x4 x5 x6 512 (by omega))) := by
  unfold out0_A_7
  rw [View.read_writes_eq_canon _ _ _ (fun y => cover0_A_7 _ _ _ _ _ _ _ _ _ _ _ _ _ _ _ _ _ _ _ _ _ _ _ _ _ _ _ _ _ y)]
  unfold kernelRun0_A
  dsimp only
  sl_unfold_words
  simp (disch := decide) only [↓ View.readCov_skip, ↓ View.readCov_cons_toLoadRect, View.readAt_eq_ld, harg2.read_unread, harg3.read_unread, harg4.read_unread,
    harg5.read_unread, harg6.read_unread, harg7.read_unread, harg8.read_unread, View.ld_unit_zero (S := S1x512x1024) hz3, View.ld_unit_zero (S := S4x64) hz2,
    View.ld_unit_zero (S := S128x1) hz2]
  rfl

end Cert.Kernel6Ideal.Out

end
-- ==== Proof.DiffEq.lean ====
module

public import proofs.«01_k».proof.Proof.AttnEq

@[expose] public section

set_option maxHeartbeats 1600000

noncomputable section

open Idealize.ShloMosaic

/-! Differential attention of one query over the extended reals: its scores, the difference of two maps, and the
normalisation by the root mean square. -/

namespace Cert.Attn

theorem sixtyFour : Ideal.ofBits FTy.f32 1115684864#32 = ((64 : ℝ) : EReal) := by
  simp [Ideal.ofBits, Ideal.ieee, -EReal.coe_mul]; norm_num

theorem fifth : Ideal.ofBits FTy.f32 1045220557#32 = ((13421773 / 67108864 : ℝ) : EReal) := by
  simp [Ideal.ofBits, Ideal.ieee, -EReal.coe_mul]; norm_num

/-- A query's score of a key in one map: 64 features over the root of 64. -/
def scoreMap (q k : Fin 64 → EReal) : EReal :=
  Ideal.div (∑ i, q i * k i) (Ideal.sqrt (Ideal.ofBits FTy.f32 1115684864#32))

/-- A query's feature as the host leaves it. -/
def scaled (x : EReal) : EReal :=
  Ideal.div x (Ideal.sqrt (Ideal.ofBits FTy.f32 1115684864#32) * Ideal.log (Ideal.ofBits FTy.f32 1073741824#32))

theorem cutMaps (f : Fin 128 → EReal) : ∑ i, f i = (∑ x : Fin 64, f ⟨x, by omega⟩) + ∑ x : Fin 64, f ⟨64 + x, by omega⟩ :=
  Fin.sum_univ_add (a := 64) (b := 64) f

theorem scaled_real (q k : Fin 64 → EReal) (hq : ∀ i, IsReal (q i)) (hk : ∀ i, IsReal (k i)) :
    ∃ r : ℝ, scoreMap q k = (r : EReal) ∧ ∑ i, k i * scaled (q i) = ((r / Real.log 2 : ℝ) : EReal) := by
  choose q' hq using hq
  choose k' hk using hk
  have h64 : (0 : ℝ) < Real.sqrt 64 := Real.sqrt_pos.mpr (by norm_num)
  have hlog : (0 : ℝ) < Real.log 2 := Real.log_pos (by norm_num)
  have hL : Ideal.sqrt (Ideal.ofBits FTy.f32 1115684864#32) = ((Real.sqrt 64 : ℝ) : EReal) := by
    rw [sixtyFour, Ideal.sqrt_coe, if_neg (by norm_num)]
  have hM : Ideal.sqrt (Ideal.ofBits FTy.f32 1115684864#32) * Ideal.log (Ideal.ofBits FTy.f32 1073741824#32) = ((Real.sqrt 64 * Real.log 2 : ℝ) : EReal) := by
    rw [hL, two, Ideal.log_coe, if_neg (by norm_num), EReal.coe_mul]
  refine ⟨(∑ i, q' i * k' i) * (1 / Real.sqrt 64), ?_, ?_⟩
  · unfold scoreMap
    rw [hL, Ideal.div_coe h64.ne']
    simp only [hq, hk, ← EReal.coe_mul, coe_sum]
  · unfold scaled
    simp only [hM, Ideal.div_coe (mul_pos h64 hlog).ne', hq, hk, ← EReal.coe_mul, coe_sum]
    congr 1
    rw [Finset.sum_mul, Finset.sum_div]
    refine Finset.sum_congr rfl fun i _ => ?_
    field_simp

/-- The padded product of one map's queries with both maps' keys: the other map's features meet zeros. -/
theorem scoreMap_eq (m : Fin 2) (Q : Fin 128 → EReal) (q : Fin 64 → EReal) (k : Fin 2 → Fin 64 → EReal) (hq : ∀ i, IsReal (q i)) (hk : ∀ i, IsReal (k m i))
    (hQ : ∀ i : Fin 128, Q i = if i.val / 64 = m.val then scaled (q ⟨i.val % 64, by omega⟩) else 0) :
    ∃ r : ℝ, scoreMap q (k m) = (r : EReal) ∧ ∑ i : Fin 128, k ⟨i.val / 64, by omega⟩ ⟨i.val % 64, by omega⟩ * Q i = ((r / Real.log 2 : ℝ) : EReal) := by
  obtain ⟨r, hr, hs⟩ := scaled_real q (k m) hq hk
  refine ⟨r, hr, ?_⟩
  rw [cutMaps]
  have d0 (x : Fin 64) : x.val / 64 = 0 := by omega
  have d1 (x : Fin 64) : (64 + x.val) / 64 = 1 := by omega
  have m0 (x : Fin 64) : x.val % 64 = x.val := by omega
  have m1 (x : Fin 64) : (64 + x.val) % 64 = x.val := by omega
  simp only [hQ, d0, d1, m0, m1, Fin.eta]
  match m with
  | ⟨0, _⟩ => simpa using hs
  | ⟨1, _⟩ => simpa using hs

/-- The weight of one key. -/
def softWeight (s : Fin 2304 → EReal) (M : EReal) (k : Fin 2304) : EReal :=
  Ideal.div (Ideal.exp (s k - M)) (∑ j, Ideal.exp (s j - M))

theorem softWeight_real (s : Fin 2304 → EReal) (M : EReal) (hM : IsReal M) (hs : ∀ k, IsReal (s k)) (k : Fin 2304) : IsReal (softWeight s M k) := by
  choose r hr using hs
  obtain ⟨μ, rfl⟩ := hM
  have hD : 0 < ∑ k, Real.exp (r k - μ) := Finset.sum_pos (fun k _ => Real.exp_pos _) ⟨0, Finset.mem_univ _⟩
  refine ⟨Real.exp (r k - μ) * (1 / ∑ k, Real.exp (r k - μ)), ?_⟩
  unfold softWeight
  simp only [hr, ← EReal.coe_sub, Ideal.exp_coe]
  rw [coe_sum, Ideal.div_coe hD.ne', ← EReal.coe_mul]

/-- With finite weights, values and factor, the difference of two weighted sums is the sum weighted by the differences. -/
theorem diff_eq (a b v : Fin 2304 → EReal) (l : EReal) (ha : ∀ k, IsReal (a k)) (hb : ∀ k, IsReal (b k)) (hv : ∀ k, IsReal (v k)) (hl : IsReal l) :
    (∑ k, v k * a k) - l * ∑ k, v k * b k = ∑ k, v k * (a k - l * b k) := by
  choose a' ha using ha
  choose b' hb using hb
  choose v' hv using hv
  obtain ⟨l', rfl⟩ := hl
  simp only [ha, hb, hv, ← EReal.coe_mul, ← EReal.coe_sub, coe_sum]
  congr 1
  rw [Finset.mul_sum, ← Finset.sum_sub_distrib]
  exact Finset.sum_congr rfl fun k _ => by ring

/-- One query's 128 features over their root mean square, with a gain and a factor. -/
def rmsRow (z g : Fin 128 → EReal) (e : Fin 128) : EReal :=
  z e * Ideal.rsqrt (Ideal.div (∑ x, z x * z x) (Ideal.ofBits FTy.f32 1124073472#32) + Ideal.ofBits FTy.f32 897988541#32) * (g e * Ideal.ofBits FTy.f32 1061997773#32)

/-- The second softmax's weight, from the four vectors. -/
def lamOf (x : Fin 4 → Fin 64 → EReal) : EReal :=
  Ideal.exp (∑ i, x 0 i * x 1 i) - Ideal.exp (∑ i, x 2 i * x 3 i) + Ideal.ofBits FTy.f32 1045220557#32

theorem lamOf_real (x : Fin 4 → Fin 64 → EReal) (h : ∀ a i, IsReal (x a i)) : IsReal (lamOf x) := by
  choose r hr using h
  refine ⟨Real.exp (∑ i, r 0 i * r 1 i) - Real.exp (∑ i, r 2 i * r 3 i) + 13421773 / 67108864, ?_⟩
  unfold lamOf
  simp only [hr, fifth, ← EReal.coe_mul, coe_sum, Ideal.exp_coe, ← EReal.coe_sub, ← EReal.coe_add]

end Cert.Attn

end
-- ==== Proof.DiffTile.lean ====
module

public import proofs.«01_k».proof.Proof.DiffRun
public import proofs.«01_k».proof.Proof.DiffEq
public import proofs.«01_k».proof.Proof.AttnTile

@[expose] public section

set_option maxHeartbeats 1600000

noncomputable section

open Idealize.ShloMosaic Idealize.ShloMosaic.TcCoe Idealize.SL.Sem

/-! The differential attention's body at an index: one entry of one head of one tile. -/

namespace Cert.Kernel6Ideal.Out

open Cert.Attn Cert.Kernel6Ideal Cert.Kernel6Ideal.Gen
open Cert.KernelIdeal.Out (turned turned_apply)

theorem lam_apply (x0 : Vec Ideal S4x64 .f32) : lam x0 (ix2 0 0) = lamOf fun a i => x0 (ix2 a i) := by
  unfold lam dotOf lamOf
  pointwise

theorem gain_apply (x1 : Vec Ideal S128x1 .f32) (e : Fin 128) : gain x1 (ix2 e 0) = x1 (ix2 e 0) * Ideal.ofBits FTy.f32 1061997773#32 := by
  unfold gain
  pointwise

theorem diff_apply (l : FVec Ideal S1x1 .f32) (a b : FVec Ideal S128x512 .f32) (e : Fin 128) (t : Fin 512) :
    diff l a b (ix2 e t) = a (ix2 e t) - l (ix2 0 0) * b (ix2 e t) := by
  unfold diff
  pointwise

theorem rms_apply (x1 : Vec Ideal S128x1 .f32) (z : FVec Ideal S128x512 .f32) (e : Fin 128) (t : Fin 512) :
    rms (gain x1) z (ix2 e t) = rmsRow (fun e => z (ix2 e t)) (fun e => x1 (ix2 e 0)) e := by
  have r (g : FVec Ideal S128x1 .f32) : rms g z (ix2 e t) = z (ix2 e t) * Ideal.rsqrt (Ideal.div (∑ x, z (ix2 x t) * z (ix2 x t)) (Ideal.ofBits FTy.f32 1124073472#32)
      + Ideal.ofBits FTy.f32 897988541#32) * g (ix2 e 0) := by
    unfold rms
    pointwise
  exact (r _).trans (congrArg (_ * ·) (gain_apply x1 e))

theorem queriesOf_apply (x2 : Vec Ideal S1x512x1024 .bf16) (o p : ℕ) (h : S512x1024.Slices ![o, p] S64x512) (ho : o + 64 ≤ 512) (hp : p + 512 ≤ 1024) (i : Fin 64) (t : Fin 512) :
    queriesOf x2 o p h (ix2 i t) = x2 (ix3 0 ⟨o + i, by omega⟩ ⟨p + t, by omega⟩) := by
  unfold queriesOf
  pointwise

theorem lower_apply (q : FVec Ideal S64x512 .bf16) (i : Fin 128) (t : Fin 512) : lower q (ix2 i t) = if i.val / 64 = 0 then q (ix2 ⟨i.val % 64, by omega⟩ t) else 0 := by
  have e : lower q (ix2 i t) = if hi : i.val < 64 then q (ix2 ⟨i, hi⟩ t) else 0 := by
    unfold lower zeros
    pointwise
  rw [e]
  split_ifs with h1 h2 h2
  · exact congrArg (fun j => q (ix2 j t)) (Fin.ext (by show i.val = i.val % 64; omega))
  · omega
  · omega
  · rfl

theorem upper_apply (q : FVec Ideal S64x512 .bf16) (i : Fin 128) (t : Fin 512) : upper q (ix2 i t) = if i.val / 64 = 1 then q (ix2 ⟨i.val % 64, by omega⟩ t) else 0 := by
  have e : upper q (ix2 i t) = if hi : i.val < 64 then 0 else q (ix2 ⟨i.val - 64, by omega⟩ t) := by
    unfold upper zeros
    pointwise
  rw [e]
  split_ifs with h1 h2 h2
  · omega
  · rfl
  · exact congrArg (fun j => q (ix2 j t)) (Fin.ext (by show i.val - 64 = i.val % 64; omega))
  · omega

theorem tileOf_apply (f : Fin 4 → FVec Ideal S128x512 .f32) (i : Fin 512) (t : Fin 512) :
    tileOf f (ix2 i t) = f ⟨i.val / 128, by omega⟩ (ix2 ⟨i.val % 128, by omega⟩ t) := by
  unfold tileOf
  refine concatenate_ofFn_apply (s₁ := S128x512) (0 : Fin S512x512.rank) f _ rfl 128 rfl (ix2 i t) ⟨i.val / 128, by omega⟩ rfl (ix2 ⟨i.val % 128, by omega⟩ t) rfl ?_
  intro b hb
  match b with
  | ⟨0, _⟩ => exact absurd rfl hb
  | ⟨1, _⟩ => rfl

variable (c : Dev nD) (arg2 : Memref sig .tc .vmem S4x64 .f32) (harg2 : arg2.IsWhole) (arg3 : Memref sig .tc .vmem S128x1 .f32) (harg3 : arg3.IsWhole)
  (arg4 : Memref sig .tc .vmem S1x512x1024 .bf16) (harg4 : arg4.IsWhole) (arg5 : Memref sig .tc .vmem S1x2048x512 .bf16) (harg5 : arg5.IsWhole)
  (arg6 : Memref sig .tc .vmem S1x256x512 .bf16) (harg6 : arg6.IsWhole) (arg7 : Memref sig .tc .vmem S1x576x2048 .bf16) (harg7 : arg7.IsWhole)
  (arg8 : Memref sig .tc .vmem S1x576x256 .bf16) (harg8 : arg8.IsWhole)
  (arg10 : Memref sig .tc .vmem S2x2304x512 .f32) (arg11 : Memref sig .tc .vmem S2x2304x512 .bf16)
  (x0 : Vec Ideal S4x64 .f32) (x1 : Vec Ideal S128x1 .f32) (x2 : Vec Ideal S1x512x1024 .bf16) (x3 : Vec Ideal S1x2048x512 .bf16) (x4 : Vec Ideal S1x256x512 .bf16)
  (x5 : Vec Ideal S1x576x2048 .bf16) (x6 : Vec Ideal S1x576x256 .bf16)

/-- The output block at an index of the tile at `p`: head `d / 128`'s feature `d % 128` of query `t`. -/
theorem out_apply (i : grid0.Coords) (arg9 : Memref sig .tc .vmem S1x1024x512 .bf16) (harg9 : arg9.IsWhole) (harg10 : arg10.IsWhole) (harg11 : arg11.IsWhole)
    (p : ℕ) (hp : p + 512 ≤ 1024) (hp' : p = 0 ∨ p = 512) (t : Fin 512) (d : Fin 512) :
    out0_A_7 c i arg2 harg2 arg3 harg3 arg4 harg4 arg5 harg5 arg6 harg6 arg7 harg7 arg8 harg8 arg9 harg9 arg10 harg10 arg11 harg11 x0 x1 x2 x3 x4 x5 x6
        (ix3 (0 : Fin 1) (⟨p + t, by omega⟩ : Fin 1024) d)
      = headOf x0 x1 x2 x3 x4 x5 x6 p hp ⟨d.val / 128, by omega⟩ (ix2 ⟨d.val % 128, by omega⟩ t) := by
  rw [out_A]
  rcases hp' with rfl | rfl
  · exact (turned_apply (fun p => if h : p + 512 ≤ 1024 then tileOf (headOf x0 x1 x2 x3 x4 x5 x6 p h) else tileOf (headOf x0 x1 x2 x3 x4 x5 x6 0 (by omega))) 0 hp (.inl rfl) t d).trans (tileOf_apply _ d t)
  · exact (turned_apply (fun p => if h : p + 512 ≤ 1024 then tileOf (headOf x0 x1 x2 x3 x4 x5 x6 p h) else tileOf (headOf x0 x1 x2 x3 x4 x5 x6 0 (by omega))) 512 hp (.inr rfl) t d).trans (tileOf_apply _ d t)

end Cert.Kernel6Ideal.Out

end
-- ==== Proof.DiffLayout.lean ====
module

public import proofs.«01_k».proof.Proof.Gen.Kernel6Ideal.Frame
public import proofs.«01_k».proof.Proof.DiffEq
public import Idealize.ShloMosaic.Lib.Pointwise
public import Idealize.ShloMosaic.Lib.Tactic

@[expose] public section

set_option maxHeartbeats 1600000

noncomputable section

open Idealize.ShloMosaic Idealize.ShloMosaic.TcCoe Idealize.SL.Sem

namespace Cert.Kernel6Ideal.Out

open Cert.Attn Cert.Kernel6Ideal Cert.Kernel6Ideal.Gen

/-- The queries as the host lays them out: divided, a map's features as rows. -/
def hostQ (a : FVec Ideal S16x2048x4x2x64 .f32) : FVec Ideal S16x512x2048 .bf16 :=
  truncf .bf16 (shapeCast S16x512x2048 (transpose S16x4x2x64x2048 [0, 2, 3, 4, 1]
    (Host.divf a (broadcastInDim S16x2048x4x2x64 ![] bcast_S_S16x2048x4x2x64 (mulf (Host.sqrt (constant S_ .f32 0x42800000#32)) (Host.log (constant S_ .f32 0x40000000#32)))))
    transposes_S16x2048x4x2x64_S16x4x2x64x2048_0_2_3_4_1) shapeCasts_S16x4x2x64x2048_S16x512x2048) bitsLt_bf16_f32

/-- The gain as a column. -/
def hostG (g : FVec Ideal S128 .f32) : FVec Ideal S128x1 .f32 := shapeCast S128x1 g shapeCasts_S128_S128x1

/-- The latent keys as the host lays them out. -/
def hostK (k : FVec Ideal S16x2048x4x2x64 .f32) : FVec Ideal S16x2048x512 .bf16 :=
  truncf .bf16 (shapeCast S16x2048x512 k shapeCasts_S16x2048x4x2x64_S16x2048x512) bitsLt_bf16_f32

/-- The context's keys likewise. -/
def hostKx (k : FVec Ideal S16x256x4x2x64 .f32) : FVec Ideal S16x256x512 .bf16 :=
  truncf .bf16 (shapeCast S16x256x512 k shapeCasts_S16x256x4x2x64_S16x256x512) bitsLt_bf16_f32

/-- The latent values as the host lays them out: sixteen ones beside each head's values, turned. -/
def hostV (v : FVec Ideal S16x2048x4x128 .f32) : FVec Ideal S16x576x2048 .bf16 :=
  truncf .bf16 (shapeCast S16x576x2048 (transpose S16x4x144x2048 [0, 2, 3, 1]
    (concatenate S16x2048x4x144 3 [⟨S16x2048x4x128, v⟩, ⟨S16x2048x4x16, broadcastInDim S16x2048x4x16 ![] bcast_S_S16x2048x4x16 (constant S_ .f32 0x3F800000#32)⟩] concatenates_S16x2048x4x128_S16x2048x4x16_S16x2048x4x144_d3)
    transposes_S16x2048x4x144_S16x4x144x2048_0_2_3_1) shapeCasts_S16x4x144x2048_S16x576x2048) bitsLt_bf16_f32

/-- The context's values likewise. -/
def hostVx (v : FVec Ideal S16x256x4x128 .f32) : FVec Ideal S16x576x256 .bf16 :=
  truncf .bf16 (shapeCast S16x576x256 (transpose S16x4x144x256 [0, 2, 3, 1]
    (concatenate S16x256x4x144 3 [⟨S16x256x4x128, v⟩, ⟨S16x256x4x16, broadcastInDim S16x256x4x16 ![] bcast_S_S16x256x4x16 (constant S_ .f32 0x3F800000#32)⟩] concatenates_S16x256x4x128_S16x256x4x16_S16x256x4x144_d3)
    transposes_S16x256x4x144_S16x4x144x256_0_2_3_1) shapeCasts_S16x4x144x256_S16x576x256) bitsLt_bf16_f32

theorem hostQ_apply (a : FVec Ideal S16x2048x4x2x64 .f32) (b : Fin 16) (j : Fin 512) (s : Fin 2048) :
    hostQ a (ix3 b j s) = scaled (a (ix5 b s ⟨j.val / 128, by omega⟩ ⟨j.val / 64 % 2, by omega⟩ ⟨j.val % 64, by omega⟩)) := by
  unfold hostQ scaled
  pointwise

theorem hostG_apply (g : FVec Ideal S128 .f32) (e : Fin 128) : hostG g (ix2 e 0) = g (ix1 e) := by
  unfold hostG
  pointwise

theorem hostK_apply (k : FVec Ideal S16x2048x4x2x64 .f32) (b : Fin 16) (s : Fin 2048) (j : Fin 512) :
    hostK k (ix3 b s j) = k (ix5 b s ⟨j.val / 128, by omega⟩ ⟨j.val / 64 % 2, by omega⟩ ⟨j.val % 64, by omega⟩) := by
  unfold hostK
  pointwise

theorem hostKx_apply (k : FVec Ideal S16x256x4x2x64 .f32) (b : Fin 16) (s : Fin 256) (j : Fin 512) :
    hostKx k (ix3 b s j) = k (ix5 b s ⟨j.val / 128, by omega⟩ ⟨j.val / 64 % 2, by omega⟩ ⟨j.val % 64, by omega⟩) := by
  unfold hostKx
  pointwise

/-- A latent value's feature: the head's 128, then ones. -/
theorem hostV_apply (v : FVec Ideal S16x2048x4x128 .f32) (b : Fin 16) (h : Fin 4) (e : Fin 144) (s : Fin 2048) :
    hostV v (ix3 b ⟨144 * h + e, by omega⟩ s) = if he : e.val < 128 then v (ix4 b s h ⟨e, he⟩) else 1 := by
  unfold hostV
  pointwise

/-- A context value's feature. -/
theorem hostVx_apply (v : FVec Ideal S16x256x4x128 .f32) (b : Fin 16) (h : Fin 4) (e : Fin 144) (s : Fin 256) :
    hostVx v (ix3 b ⟨144 * h + e, by omega⟩ s) = if he : e.val < 128 then v (ix4 b s h ⟨e, he⟩) else 1 := by
  unfold hostVx
  pointwise

end Cert.Kernel6Ideal.Out

end
-- ==== Proof.DiffRefOut.lean ====
module

public import proofs.«01_k».proof.Proof.Gen.Reference6Ideal.Read
public import proofs.«01_k».proof.Proof.DiffEq

@[expose] public section

set_option maxHeartbeats 1600000

noncomputable section

open Idealize.ShloMosaic Idealize.ShloMosaic.TcCoe Idealize.SL.Sem

namespace Cert.Reference6Ideal.Rows

open Cert.Attn Cert.Reference6Ideal Cert.Reference6Ideal.Gen Cert.Reference6Ideal.Read

variable (x0 x1 : FVec Ideal S16x2048x4x2x64 .f32) (x2 : FVec Ideal S16x2048x4x128 .f32) (x3 : FVec Ideal S16x256x4x2x64 .f32)
  (x4 : FVec Ideal S16x256x4x128 .f32) (x5 : FVec Ideal S4x64 .f32) (x6 : FVec Ideal S128 .f32)

/-- The weighted values. -/
theorem v41_apply (b : Fin 16) (s : Fin 2048) (h : Fin 4) (e : Fin 128) : val_main_v41 (F := Ideal) x0 x1 x2 x3 x4 x5 (ix4 b s h e)
    = ∑ k, val_main_v17 (F := Ideal) x2 x4 (ix4 b k h e) * val_main_v39 (F := Ideal) x0 x1 x3 x5 (ix4 b h s k) := by
  unfold val_main_v41 val_main_v40
  generalize val_main_v39 (F := Ideal) x0 x1 x3 x5 = y
  generalize val_main_v17 (F := Ideal) x2 x4 = z
  pointwise [dot_S16x2304x4x128_S16x4x2048x2304_S16x4x128x2048_1_3_3_2_02_01]

/-- The result, at an index. -/
theorem v58_apply (b : Fin 16) (s : Fin 2048) (d : Fin 512) : val_main_v58 (F := Ideal) x0 x1 x2 x3 x4 x5 x6 (ix3 b s d)
    = rmsRow (fun e => val_main_v41 (F := Ideal) x0 x1 x2 x3 x4 x5 (ix4 b s ⟨d.val / 128, by omega⟩ e)) (fun e => x6 (ix1 e)) ⟨d.val % 128, by omega⟩ := by
  unfold val_main_v58 val_main_v57 val_main_v56 val_main_v55 val_main_cst_9 val_main_v54 val_main_v53 val_main_v52 val_main_v51 val_main_v50 val_main_v49 val_main_v48
    val_main_v47 val_main_cst_8 val_main_v46 val_main_v45 val_main_cst_7 val_main_v44 val_main_v43 val_main_cst_6 val_main_v42 rmsRow
  generalize val_main_v41 (F := Ideal) x0 x1 x2 x3 x4 x5 = y
  rw [← mul_assoc]
  pointwise

end Cert.Reference6Ideal.Rows

end
-- ==== Proof.DiffRef.lean ====
module

public import proofs.«01_k».proof.Proof.Gen.Reference6Ideal.Read
public import proofs.«01_k».proof.Proof.DiffEq

@[expose] public section

set_option maxHeartbeats 1600000

noncomputable section

open Idealize.ShloMosaic Idealize.ShloMosaic.TcCoe Idealize.SL.Sem

namespace Cert.Reference6Ideal.Rows

open Cert.Attn Cert.Reference6Ideal Cert.Reference6Ideal.Gen Cert.Reference6Ideal.Read

variable (x0 x1 : FVec Ideal S16x2048x4x2x64 .f32) (x2 : FVec Ideal S16x2048x4x128 .f32) (x3 : FVec Ideal S16x256x4x2x64 .f32)
  (x4 : FVec Ideal S16x256x4x128 .f32) (x5 : FVec Ideal S4x64 .f32) (x6 : FVec Ideal S128 .f32)

/-- The second softmax's weight. -/
theorem v15_apply : val_main_v15 (F := Ideal) x5 ix0 = lamOf fun a i => x5 (ix2 a i) := by
  unfold val_main_v15 val_main_v14 val_main_v13 val_main_v12 val_main_v11 val_main_v10 val_main_v9 val_main_v8 val_main_v7 val_main_v6 val_main_v5 val_main_v4 val_main_v3
    val_main_v2 val_main_v1 val_main_v0 val_main_cst val_main_cst_0 val_main_cst_1 lamOf
  pointwise

/-- A key's feature in one map: the context's keys first, then the latent's. -/
theorem v16_apply (b : Fin 16) (k : Fin 2304) (h : Fin 4) (m : Fin 2) (d : Fin 64) : val_main_v16 (F := Ideal) x1 x3 (ix5 b k h m d)
    = if hk : k.val < 256 then x3 (ix5 b ⟨k, hk⟩ h m d) else x1 (ix5 b ⟨k.val - 256, by omega⟩ h m d) := by
  unfold val_main_v16
  pointwise

/-- The values likewise. -/
theorem v17_apply (b : Fin 16) (k : Fin 2304) (h : Fin 4) (e : Fin 128) : val_main_v17 (F := Ideal) x2 x4 (ix4 b k h e)
    = if hk : k.val < 256 then x4 (ix4 b ⟨k, hk⟩ h e) else x2 (ix4 b ⟨k.val - 256, by omega⟩ h e) := by
  unfold val_main_v17
  pointwise

/-- The scores of one map. -/
theorem v21_apply (b : Fin 16) (h : Fin 4) (m : Fin 2) (s : Fin 2048) (k : Fin 2304) : val_main_v21 (F := Ideal) x0 x1 x3 (ix5 b h m s k)
    = scoreMap (fun i => x0 (ix5 b s h m i)) (fun i => val_main_v16 (F := Ideal) x1 x3 (ix5 b k h m i)) := by
  rw [val_main_v21_apply, val_main_v20_apply, val_main_v19_apply, val_main_cst_2_apply, val_main_v18_apply]
  generalize val_main_v16 (F := Ideal) x1 x3 = y
  have el (i : Fin 64) : lidx_main_v18 (ix5 b h m s k) i = ix5 b s h m i := by
    funext a
    match a with | ⟨0, _⟩ => rfl | ⟨1, _⟩ => rfl | ⟨2, _⟩ => rfl | ⟨3, _⟩ => rfl | ⟨4, _⟩ => rfl
  have er (i : Fin 64) : ridx_main_v18 (ix5 b h m s k) i = ix5 b k h m i := by
    funext a
    match a with | ⟨0, _⟩ => rfl | ⟨1, _⟩ => rfl | ⟨2, _⟩ => rfl | ⟨3, _⟩ => rfl | ⟨4, _⟩ => rfl
  simp only [el, er]
  rfl

/-- A query's maximum is real where the scores are. -/
theorem v22_real (H : ∀ i, IsReal (val_main_v21 (F := Ideal) x0 x1 x3 i)) (b : Fin 16) (h : Fin 4) (m : Fin 2) (s : Fin 2048) :
    IsReal (val_main_v22 (F := Ideal) x0 x1 x3 (ix4 b h m s)) := by
  unfold val_main_v22
  revert H
  generalize val_main_v21 (F := Ideal) x0 x1 x3 = y
  intro H
  rw [Host.reduce_eq_fold]
  have hne : (Finset.univ.filter fun i => reducesTo_S16x4x2x2048x2304_S16x4x2x2048_d4.drop i = ix4 b h m s).Nonempty := by
    refine ⟨ix5 b h m s 0, Finset.mem_filter.mpr ⟨Finset.mem_univ _, ?_⟩⟩
    funext a
    match a with | ⟨0, _⟩ => rfl | ⟨1, _⟩ => rfl | ⟨2, _⟩ => rfl | ⟨3, _⟩ => rfl
  obtain ⟨i, _, e⟩ := Finset.exists_mem_eq_sup _ hne y
  have e' : Finset.fold max ⊥ y (Finset.univ.filter fun i => reducesTo_S16x4x2x2048x2304_S16x4x2x2048_d4.drop i = ix4 b h m s) = y i := e
  have e2 : val_main_cst_3 (F := Ideal) (Shape.Idx.first h_S_) = (⊥ : EReal) := negInf
  rw [e2]
  exact e'.symm ▸ H i

/-- The maximum as it is subtracted. -/
def maxOf (b : Fin 16) (h : Fin 4) (m : Fin 2) (s : Fin 2048) : EReal :=
  max (Ideal.ofBits FTy.f32 4286578688#32) (val_main_v22 (F := Ideal) x0 x1 x3 (ix4 b h m s))

/-- The weights before they are divided. -/
theorem v28_apply (b : Fin 16) (h : Fin 4) (m : Fin 2) (s : Fin 2048) (k : Fin 2304) : val_main_v28 (F := Ideal) x0 x1 x3 (ix5 b h m s k)
    = Ideal.exp (val_main_v21 (F := Ideal) x0 x1 x3 (ix5 b h m s k) - maxOf x0 x1 x3 b h m s) := by
  unfold maxOf
  rw [val_main_v28_apply, val_main_v27_apply, val_main_v26_apply, val_main_v25_apply, val_main_v24_apply, val_main_v23_apply, val_main_cst_4_apply]
  generalize val_main_v22 (F := Ideal) x0 x1 x3 = y
  generalize val_main_v21 (F := Ideal) x0 x1 x3 = z
  have e : idx_main_v25 (idx_main_v26 (ix5 b h m s k)) = ix4 b h m s := by
    funext a
    match a with | ⟨0, _⟩ => rfl | ⟨1, _⟩ => rfl | ⟨2, _⟩ => rfl | ⟨3, _⟩ => rfl
  rw [e, Ideal.maximumf_eq_max, Ideal.hostUnary_exp_def]
  rfl

/-- The weights. -/
theorem v32_apply (b : Fin 16) (h : Fin 4) (m : Fin 2) (s : Fin 2048) (k : Fin 2304) : val_main_v32 (F := Ideal) x0 x1 x3 (ix5 b h m s k)
    = softWeight (fun k => val_main_v21 (F := Ideal) x0 x1 x3 (ix5 b h m s k)) (maxOf x0 x1 x3 b h m s) k := by
  have e (x : Fin 2304) : idx_main_v29 (idx_main_v30 (idx_main_v31 (ix5 b h m s k))) x = ix5 b h m s x := by
    funext a
    match a with | ⟨0, _⟩ => rfl | ⟨1, _⟩ => rfl | ⟨2, _⟩ => rfl | ⟨3, _⟩ => rfl | ⟨4, _⟩ => rfl
  have e0 : val_main_cst_5 (F := Ideal) (Shape.Idx.first h_S_) = (0 : EReal) := by
    unfold val_main_cst_5
    pointwise
  rw [val_main_v32_apply, val_main_v31_apply, val_main_v30_apply, val_main_v29_apply, e0, zero_add]
  simp only [e, v28_apply]
  rfl

/-- The difference of the two maps' weights. -/
theorem v39_apply (b : Fin 16) (h : Fin 4) (s : Fin 2048) (k : Fin 2304) : val_main_v39 (F := Ideal) x0 x1 x3 x5 (ix4 b h s k)
    = val_main_v32 (F := Ideal) x0 x1 x3 (ix5 b h 0 s k) - val_main_v15 (F := Ideal) x5 ix0 * val_main_v32 (F := Ideal) x0 x1 x3 (ix5 b h 1 s k) := by
  have e0 : idx_main_v33 (idx_main_v34 (ix4 b h s k)) = ix5 b h 0 s k := by
    have hb := b.isLt
    have hh := h.isLt
    have hs := s.isLt
    have hk := k.isLt
    funext a
    apply Fin.ext
    match a with
    | ⟨0, _⟩ => show (((b.val * 4 + h.val) * 2048 + s.val) * 2304 + k.val) / 18874368 = b.val; omega
    | ⟨1, _⟩ => show (((b.val * 4 + h.val) * 2048 + s.val) * 2304 + k.val) / 4718592 % 4 = h.val; omega
    | ⟨2, _⟩ => rfl
    | ⟨3, _⟩ => show (((b.val * 4 + h.val) * 2048 + s.val) * 2304 + k.val) / 2304 % 2048 = s.val; omega
    | ⟨4, _⟩ => show (((b.val * 4 + h.val) * 2048 + s.val) * 2304 + k.val) % 2304 = k.val; omega
  have e1 : idx_main_v35 (idx_main_v36 (ix4 b h s k)) = ix5 b h 1 s k := by
    have hb := b.isLt
    have hh := h.isLt
    have hs := s.isLt
    have hk := k.isLt
    funext a
    apply Fin.ext
    match a with
    | ⟨0, _⟩ => show (((b.val * 4 + h.val) * 2048 + s.val) * 2304 + k.val) / 18874368 = b.val; omega
    | ⟨1, _⟩ => show (((b.val * 4 + h.val) * 2048 + s.val) * 2304 + k.val) / 4718592 % 4 = h.val; omega
    | ⟨2, _⟩ => rfl
    | ⟨3, _⟩ => show (((b.val * 4 + h.val) * 2048 + s.val) * 2304 + k.val) / 2304 % 2048 = s.val; omega
    | ⟨4, _⟩ => show (((b.val * 4 + h.val) * 2048 + s.val) * 2304 + k.val) % 2304 = k.val; omega
  rw [val_main_v39_apply, val_main_v38_apply, val_main_v37_apply, val_main_v36_apply, val_main_v35_apply, val_main_v34_apply, val_main_v33_apply, e0, e1,
    show idx_main_v37 (ix4 b h s k) = ix0 from funext fun a => a.elim0]
  rfl

end Cert.Reference6Ideal.Rows

end
-- ==== Proof.DiffPoint.lean ====
module

public import proofs.«01_k».proof.Proof.DiffTile
public import proofs.«01_k».proof.Proof.DiffLayout
public import proofs.«01_k».proof.Proof.DiffRefOut
public import proofs.«01_k».proof.Proof.DiffRef
public import proofs.«01_k».proof.Proof.AttnRows
public import Idealize.ShloMosaic.Lib.Pipeline.ValueKit.Point

@[expose] public section

set_option maxHeartbeats 1600000

noncomputable section

open Idealize.ShloMosaic Idealize.ShloMosaic.TcCoe Idealize.SL.Sem

/-! The differential attention's body at an entry of one block: with finite inputs it is the reference's result. -/

namespace Cert.Kernel6Ideal.Out

open Cert.Attn Cert.Kernel6Ideal Cert.Kernel6Ideal.Gen Cert.Reference6Ideal.Rows Cert.Reference6Ideal.Read
open Cert.KernelIdeal.Out (unit keysAt valuesAt keysAt_apply valuesAt_apply unit_apply score_apply)

section
variable (x0 : FVec Ideal S4x64 .f32) (x1 : FVec Ideal S128x1 .f32) (x2 : FVec Ideal S1x512x1024 .bf16) (x3 : FVec Ideal S1x2048x512 .bf16) (x4 : FVec Ideal S1x256x512 .bf16)
  (x5 : FVec Ideal S1x576x2048 .bf16) (x6 : FVec Ideal S1x576x256 .bf16)
  (A0 A1 : FVec Ideal S16x2048x4x2x64 .f32) (A2 : FVec Ideal S16x2048x4x128 .f32) (A3 : FVec Ideal S16x256x4x2x64 .f32) (A4 : FVec Ideal S16x256x4x128 .f32)
  (A5 : FVec Ideal S4x64 .f32) (A6 : FVec Ideal S128 .f32) (b : Fin 16)

/-- A chunk's key, feature by feature, is the reference's key of that number. -/
theorem key_eq (h3 : ∀ s j, x3 (ix3 0 s j) = hostK A1 (ix3 b s j)) (h4 : ∀ s j, x4 (ix3 0 s j) = hostKx A3 (ix3 b s j)) (h : Fin 4) (c : Fin 9) (x : Fin 256) (i : Fin 128) :
    (keysAt (F := Ideal) x3 x4 (128 * h.val) (by omega) c (ix3 0 x i) : EReal)
      = val_main_v16 (F := Ideal) A1 A3 (ix5 b ⟨256 * c + x, by omega⟩ h ⟨i.val / 64, by omega⟩ ⟨i.val % 64, by omega⟩) := by
  have a1 (i : Fin 128) : (128 * h.val + i.val) / 128 = h.val := by omega
  have a2 (i : Fin 128) : (128 * h.val + i.val) / 64 % 2 = i.val / 64 := by omega
  have a3 (i : Fin 128) : (128 * h.val + i.val) % 64 = i.val % 64 := by omega
  refine keysAt_apply x3 x4 _ _ (fun k i => val_main_v16 (F := Ideal) A1 A3 (ix5 b k h ⟨i.val / 64, by omega⟩ ⟨i.val % 64, by omega⟩)) (fun x i => ?_) (fun x i => ?_) c x i
  · rw [h4, hostKx_apply, v16_apply]
    simp only [a1, a2, a3, Fin.is_lt, dite_true, Fin.eta]
  · have e : ¬ 256 + x.val < 256 := by omega
    have e' : 256 + x.val - 256 = x.val := by omega
    rw [h3, hostK_apply, v16_apply]
    simp only [a1, a2, a3, e, e', dite_false, Fin.eta]

/-- A chunk's value likewise; the rows past the 128th are ones. -/
theorem value_eq (h5 : ∀ j s, x5 (ix3 0 j s) = hostV A2 (ix3 b j s)) (h6 : ∀ j s, x6 (ix3 0 j s) = hostVx A4 (ix3 b j s)) (h : Fin 4) (c : Fin 9) (x : Fin 256) (e : Fin 144) :
    (valuesAt (F := Ideal) 144 x5 x6 (144 * h.val) (by omega) c (ix3 0 e x) : EReal)
      = if he : e.val < 128 then val_main_v17 (F := Ideal) A2 A4 (ix4 b ⟨256 * c + x, by omega⟩ h ⟨e, he⟩) else 1 := by
  refine valuesAt_apply x5 x6 _ _ (fun k e => if he : e.val < 128 then val_main_v17 (F := Ideal) A2 A4 (ix4 b k h ⟨e, he⟩) else 1) (fun x e => ?_) (fun x e => ?_) c x e
  · rw [h6, hostVx_apply]
    simp only [v17_apply, Fin.is_lt, dite_true, Fin.eta]
  · have e1 : ¬ 256 + x.val < 256 := by omega
    have e2 : 256 + x.val - 256 = x.val := by omega
    rw [h5, hostV_apply]
    simp only [v17_apply, e1, e2, dite_false, Fin.eta]

/-- The finiteness the differential attention needs: of all but the gain. -/
structure Finite : Prop where
  q : ∀ i, IsReal (A0 i)
  k : ∀ i, IsReal (A1 i)
  v : ∀ i, IsReal (A2 i)
  kx : ∀ i, IsReal (A3 i)
  vx : ∀ i, IsReal (A4 i)
  l : ∀ i, IsReal (A5 i)

variable (fin : Finite A0 A1 A2 A3 A4 A5)
include fin

theorem v16_real (i : Fin 16) (k : Fin 2304) (h : Fin 4) (m : Fin 2) (d : Fin 64) : IsReal (val_main_v16 (F := Ideal) A1 A3 (ix5 i k h m d)) := by
  rw [v16_apply]
  split_ifs
  · exact fin.kx _
  · exact fin.k _

theorem v17_real (i : Fin 16) (k : Fin 2304) (h : Fin 4) (e : Fin 128) : IsReal (val_main_v17 (F := Ideal) A2 A4 (ix4 i k h e)) := by
  rw [v17_apply]
  split_ifs
  · exact fin.vx _
  · exact fin.v _

theorem v21_real (i : Fin 16) (h : Fin 4) (m : Fin 2) (s : Fin 2048) (k : Fin 2304) : IsReal (val_main_v21 (F := Ideal) A0 A1 A3 (ix5 i h m s k)) := by
  rw [v21_apply]
  obtain ⟨r, hr, _⟩ := scaled_real (fun d => A0 (ix5 i s h m d)) (fun d => val_main_v16 (F := Ideal) A1 A3 (ix5 i k h m d)) (fun _ => fin.q _)
    (fun d => v16_real A0 A1 A2 A3 A4 A5 fin i k h m d)
  exact ⟨r, hr⟩

theorem max_real (h : Fin 4) (m : Fin 2) (s : Fin 2048) : IsReal (maxOf A0 A1 A3 b h m s) := by
  unfold maxOf
  rw [negInf, max_eq_right bot_le]
  refine v22_real A0 A1 A3 (fun i => ?_) b h m s
  have e : i = ix5 (i 0) (i 1) (i 2) (i 3) (i 4) := by
    funext a
    match a with | ⟨0, _⟩ => rfl | ⟨1, _⟩ => rfl | ⟨2, _⟩ => rfl | ⟨3, _⟩ => rfl | ⟨4, _⟩ => rfl
  rw [e]
  exact v21_real A0 A1 A2 A3 A4 A5 fin _ _ _ _ _

/-- One entry of one map: the kernel's is the reference's softmax-weighted sum. -/
theorem map_eq (h3 : ∀ s j, x3 (ix3 0 s j) = hostK A1 (ix3 b s j)) (h4 : ∀ s j, x4 (ix3 0 s j) = hostKx A3 (ix3 b s j))
    (h5 : ∀ j s, x5 (ix3 0 j s) = hostV A2 (ix3 b j s)) (h6 : ∀ j s, x6 (ix3 0 j s) = hostVx A4 (ix3 b j s))
    (h : Fin 4) (m : Fin 2) (s : Fin 2048) (Q : FVec Ideal S128x512 .bf16) (t : Fin 512)
    (hQ : ∀ i : Fin 128, Q (ix2 i t) = if i.val / 64 = m.val then scaled (A0 (ix5 b s h m ⟨i.val % 64, by omega⟩)) else 0) (e : Fin 128) :
    (unit (F := Ideal) 128 (by decide) Q (keysAt x3 x4 (128 * h.val) (by omega)) (valuesAt 144 x5 x6 (144 * h.val) (by omega)) (ix2 e t) : EReal)
      = ∑ k, val_main_v17 (F := Ideal) A2 A4 (ix4 b k h e) * val_main_v32 (F := Ideal) A0 A1 A3 (ix5 b h m s k) := by
  simp only [v32_apply]
  refine unit_apply (by decide) _ _ _ e t (fun k => val_main_v21 (F := Ideal) A0 A1 A3 (ix5 b h m s k))
    (fun k => ∑ i : Fin 128, val_main_v16 (F := Ideal) A1 A3 (ix5 b k h ⟨i.val / 64, by omega⟩ ⟨i.val % 64, by omega⟩) * Q (ix2 i t))
    (fun k => val_main_v17 (F := Ideal) A2 A4 (ix4 b k h e)) (maxOf A0 A1 A3 b h m s) (max_real A0 A1 A2 A3 A4 A5 b fin h m s) (fun k => ?_) (fun c x => ?_) (fun c x => ?_) (fun c x => ?_)
  · rw [v21_apply]
    exact scoreMap_eq m (fun i => Q (ix2 i t)) (fun d => A0 (ix5 b s h m d)) (fun m d => val_main_v16 (F := Ideal) A1 A3 (ix5 b k h m d)) (fun _ => fin.q _)
      (fun d => v16_real A0 A1 A2 A3 A4 A5 fin b k h m d) hQ
  · rw [score_apply]
    exact Finset.sum_congr rfl fun i _ => congrArg (· * _) (key_eq x3 x4 A1 A3 b h3 h4 h c x i)
  · exact (value_eq x5 x6 A2 A4 b h5 h6 h c x _).trans (dif_pos e.isLt)
  · exact (value_eq x5 x6 A2 A4 b h5 h6 h c x _).trans (dif_neg (by decide))

/-- One entry of one head. -/
theorem head_eq (ρ : Fin 1024 → Fin 2048) (h0 : ∀ a i, x0 (ix2 a i) = A5 (ix2 a i)) (h1 : ∀ e, x1 (ix2 e 0) = hostG A6 (ix2 e 0)) (h2 : ∀ j r, x2 (ix3 0 j r) = hostQ A0 (ix3 b j (ρ r)))
    (h3 : ∀ s j, x3 (ix3 0 s j) = hostK A1 (ix3 b s j)) (h4 : ∀ s j, x4 (ix3 0 s j) = hostKx A3 (ix3 b s j))
    (h5 : ∀ j s, x5 (ix3 0 j s) = hostV A2 (ix3 b j s)) (h6 : ∀ j s, x6 (ix3 0 j s) = hostVx A4 (ix3 b j s))
    (p : ℕ) (hp : p + 512 ≤ 1024) (h : Fin 4) (e : Fin 128) (t : Fin 512) :
    (headOf (F := Ideal) x0 x1 x2 x3 x4 x5 x6 p hp h (ix2 e t) : EReal)
      = rmsRow (fun e => val_main_v41 (F := Ideal) A0 A1 A2 A3 A4 A5 (ix4 b (ρ ⟨p + t, by omega⟩) h e)) (fun e => A6 (ix1 e)) e := by
  have hA (e : Fin 128) : mapA (F := Ideal) x2 x3 x4 x5 x6 p hp h (ix2 e t)
      = ∑ k, val_main_v17 (F := Ideal) A2 A4 (ix4 b k h e) * val_main_v32 (F := Ideal) A0 A1 A3 (ix5 b h 0 (ρ ⟨p + t, by omega⟩) k) := by
    refine map_eq x3 x4 x5 x6 A0 A1 A2 A3 A4 A5 b fin h3 h4 h5 h6 h 0 (ρ ⟨p + t, by omega⟩) _ t (fun i => ?_) e
    rw [lower_apply, queriesOf_apply _ _ _ _ (by omega) hp, h2, hostQ_apply]
    have a1 : (128 * h.val + i.val % 64) / 128 = h.val := by omega
    have a2 : (128 * h.val + i.val % 64) / 64 % 2 = 0 := by omega
    have a3 : (128 * h.val + i.val % 64) % 64 = i.val % 64 := by omega
    simp only [a1, a2, a3]
    rfl
  have hB (e : Fin 128) : mapB (F := Ideal) x2 x3 x4 x5 x6 p hp h (ix2 e t)
      = ∑ k, val_main_v17 (F := Ideal) A2 A4 (ix4 b k h e) * val_main_v32 (F := Ideal) A0 A1 A3 (ix5 b h 1 (ρ ⟨p + t, by omega⟩) k) := by
    refine map_eq x3 x4 x5 x6 A0 A1 A2 A3 A4 A5 b fin h3 h4 h5 h6 h 1 (ρ ⟨p + t, by omega⟩) _ t (fun i => ?_) e
    rw [upper_apply, queriesOf_apply _ _ _ _ (by omega) hp, h2, hostQ_apply]
    have a1 : (128 * h.val + 64 + i.val % 64) / 128 = h.val := by omega
    have a2 : (128 * h.val + 64 + i.val % 64) / 64 % 2 = 1 := by omega
    have a3 : (128 * h.val + 64 + i.val % 64) % 64 = i.val % 64 := by omega
    simp only [a1, a2, a3]
    rfl
  have hl : lam (F := Ideal) x0 (ix2 0 0) = val_main_v15 (F := Ideal) A5 ix0 := by
    rw [lam_apply, v15_apply]
    simp only [h0]
  have hz (e : Fin 128) : diff (F := Ideal) (lam x0) (mapA x2 x3 x4 x5 x6 p hp h) (mapB x2 x3 x4 x5 x6 p hp h) (ix2 e t)
      = val_main_v41 (F := Ideal) A0 A1 A2 A3 A4 A5 (ix4 b (ρ ⟨p + t, by omega⟩) h e) := by
    have w (m : Fin 2) (k : Fin 2304) : IsReal (val_main_v32 (F := Ideal) A0 A1 A3 (ix5 b h m (ρ ⟨p + t, by omega⟩) k)) := by
      rw [v32_apply]
      exact softWeight_real _ _ (max_real A0 A1 A2 A3 A4 A5 b fin h m _) (fun k => v21_real A0 A1 A2 A3 A4 A5 fin b h m _ k) k
    rw [diff_apply, hA, hB, hl, v41_apply]
    simp only [v39_apply]
    refine diff_eq _ _ _ _ (w 0) (w 1) (fun k => v17_real A0 A1 A2 A3 A4 A5 fin b k h e) ?_
    rw [v15_apply]
    exact lamOf_real _ fun a i => fin.l _
  unfold headOf
  rw [rms_apply]
  simp only [hz, h1, hostG_apply]

variable (c : Dev nD) (arg2 : Memref sig .tc .vmem S4x64 .f32) (harg2 : arg2.IsWhole) (arg3 : Memref sig .tc .vmem S128x1 .f32) (harg3 : arg3.IsWhole)
  (arg4 : Memref sig .tc .vmem S1x512x1024 .bf16) (harg4 : arg4.IsWhole) (arg5 : Memref sig .tc .vmem S1x2048x512 .bf16) (harg5 : arg5.IsWhole)
  (arg6 : Memref sig .tc .vmem S1x256x512 .bf16) (harg6 : arg6.IsWhole) (arg7 : Memref sig .tc .vmem S1x576x2048 .bf16) (harg7 : arg7.IsWhole)
  (arg8 : Memref sig .tc .vmem S1x576x256 .bf16) (harg8 : arg8.IsWhole)
  (arg10 : Memref sig .tc .vmem S2x2304x512 .f32) (arg11 : Memref sig .tc .vmem S2x2304x512 .bf16)

/-- Where the blocks are the host's arrays at batch `b` and queries `ρ`, the body's block is the reference's. -/
theorem point (i : grid0.Coords) (arg9 : Memref sig .tc .vmem S1x1024x512 .bf16) (harg9 : arg9.IsWhole) (harg10 : arg10.IsWhole) (harg11 : arg11.IsWhole) (ρ : Fin 1024 → Fin 2048)
    (X0 : FVec Ideal S4x64 .f32) (X1 : FVec Ideal S128x1 .f32) (X2 : FVec Ideal S16x512x2048 .bf16) (X3 : FVec Ideal S16x2048x512 .bf16) (X4 : FVec Ideal S16x256x512 .bf16)
    (X5 : FVec Ideal S16x576x2048 .bf16) (X6 : FVec Ideal S16x576x256 .bf16)
    (e0 : X0 = A5) (e1 : X1 = hostG A6) (e2 : X2 = hostQ A0) (e3 : X3 = hostK A1) (e4 : X4 = hostKx A3) (e5 : X5 = hostV A2) (e6 : X6 = hostVx A4)
    (h0 : ∀ a i, x0 (ix2 a i) = X0 (ix2 a i)) (h1 : ∀ e, x1 (ix2 e 0) = X1 (ix2 e 0)) (h2 : ∀ j r, x2 (ix3 0 j r) = X2 (ix3 b j (ρ r)))
    (h3 : ∀ s j, x3 (ix3 0 s j) = X3 (ix3 b s j)) (h4 : ∀ s j, x4 (ix3 0 s j) = X4 (ix3 b s j))
    (h5 : ∀ j s, x5 (ix3 0 j s) = X5 (ix3 b j s)) (h6 : ∀ j s, x6 (ix3 0 j s) = X6 (ix3 b j s)) (r : Fin 1024) (d : Fin 512) :
    (out0_A_7 (F := Ideal) c i arg2 harg2 arg3 harg3 arg4 harg4 arg5 harg5 arg6 harg6 arg7 harg7 arg8 harg8 arg9 harg9 arg10 harg10 arg11 harg11 x0 x1 x2 x3 x4 x5 x6 (ix3 (0 : Fin 1) r d) : EReal)
      = val_main_v58 (F := Ideal) A0 A1 A2 A3 A4 A5 A6 (ix3 b (ρ r) d) := by
  subst e0 e1 e2 e3 e4 e5 e6
  have key (p : ℕ) (hp : p + 512 ≤ 1024) (hp' : p = 0 ∨ p = 512) (t : Fin 512) (hr : r = ⟨p + t, by omega⟩) :
      (out0_A_7 (F := Ideal) c i arg2 harg2 arg3 harg3 arg4 harg4 arg5 harg5 arg6 harg6 arg7 harg7 arg8 harg8 arg9 harg9 arg10 harg10 arg11 harg11 x0 x1 x2 x3 x4 x5 x6 (ix3 (0 : Fin 1) r d) : EReal)
        = val_main_v58 (F := Ideal) A0 A1 A2 A3 A4 X0 A6 (ix3 b (ρ r) d) := by
    subst hr
    rw [out_apply _ _ _ _ _ _ _ _ _ _ _ _ _ _ _ _ _ _ _ _ _ _ _ _ _ _ _ _ _ p hp hp' t d, v58_apply]
    exact head_eq x0 x1 x2 x3 x4 x5 x6 A0 A1 A2 A3 A4 X0 A6 b fin ρ h0 h1 h2 h3 h4 h5 h6 p hp _ _ t
  by_cases hr : r.val < 512
  · exact key 0 (by omega) (.inl rfl) ⟨r.val, hr⟩ (Fin.ext (Nat.zero_add _).symm)
  · exact key 512 (by omega) (.inr rfl) ⟨r.val - 512, by omega⟩ (Fin.ext (by show r.val = 512 + (r.val - 512); omega))

end

end Cert.Kernel6Ideal.Out

end
-- ==== Proof.DiffHost.lean ====
module

public import proofs.«01_k».proof.Proof.DiffLayout
public import Idealize.ShloMosaic.Lib.Tactic

@[expose] public section

set_option maxHeartbeats 1600000

noncomputable section

open Idealize.ShloMosaic Idealize.ShloMosaic.TcCoe Idealize.SL.Sem

namespace Cert.Kernel6Ideal.Out

open Cert.Kernel6Ideal Cert.Kernel6Ideal.Gen

variable (m : (ℓ : Loc nD τ sig) → Buf (Elt Ideal) ℓ) (c : Dev nD)

/-! What the host operations before the kernel leave in its operands. -/

theorem V_q : V m c main_v7 = hostQ (m ((c.tc : Thread nD τ).loc main_arg0)) := by
  unfold_abbrev_sides
  after_results
  rfl

theorem V_g : V m c main_v8 = hostG (m ((c.tc : Thread nD τ).loc main_arg6)) := by
  unfold_abbrev_sides
  after_results
  rfl

theorem V_k : V m c main_v10 = hostK (m ((c.tc : Thread nD τ).loc main_arg1)) := by
  unfold_abbrev_sides
  after_results
  rfl

theorem V_kx : V m c main_v17 = hostKx (m ((c.tc : Thread nD τ).loc main_arg3)) := by
  unfold_abbrev_sides
  after_results
  rfl

theorem V_v : V m c main_v15 = hostV (m ((c.tc : Thread nD τ).loc main_arg2)) := by
  unfold_abbrev_sides
  after_results
  rfl

theorem V_vx : V m c main_v22 = hostVx (m ((c.tc : Thread nD τ).loc main_arg4)) := by
  unfold_abbrev_sides
  after_results
  rfl

theorem V_l : V m c main_arg5 = m ((c.tc : Thread nD τ).loc main_arg5) := by
  unfold_abbrev_sides
  after_results

end Cert.Kernel6Ideal.Out

end
-- ==== Proof.DiffArray.lean ====
module

public import proofs.«01_k».proof.Proof.DiffPoint
public import proofs.«01_k».proof.Proof.DiffHost
public import proofs.«01_k».proof.Proof.Gen.Kernel6Ideal.Value

@[expose] public section

set_option maxHeartbeats 1600000

noncomputable section

open Idealize.ShloMosaic Idealize.ShloMosaic.TcCoe Idealize.SL.Sem

/-! The differential attention's blocks, put together: with finite inputs the result array is the reference's. -/

namespace Cert.Kernel6Ideal.Out

open Cert.Attn Cert.Kernel6Ideal Cert.Kernel6Ideal.Gen Cert.Reference6Ideal.Rows Cert.Reference6Ideal.Read

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![(grid0.coords t 0).val, 0, 0] := (by decide +kernel : ∀ t : Fin grid0.N, _)
theorem idx6 : ∀ t : Fin cfg0.N, win0_6.index t = ![(grid0.coords t 0).val, 0, 0] := (by decide +kernel : ∀ t : Fin grid0.N, _)
theorem idx7 : ∀ t : Fin cfg0.N, win0_7.index t = ![(grid0.coords t 0).val, (grid0.coords t 1).val, 0] :=
  (by decide +kernel : ∀ t : Fin grid0.N, _)

variable (m : (ℓ : Loc nD τ sig) → Buf (Elt Ideal) ℓ) (c : Dev nD)

/-- The batch of a grid point. -/
def batch (t : Fin cfg0.N) : Fin 16 := ⟨(grid0.coords t 0).val, (grid0.coords t 0).isLt⟩

/-- The latent token of row `r` of a grid point's queries. -/
def token (t : Fin cfg0.N) (r : Fin 1024) : Fin 2048 :=
  ⟨(grid0.coords t 1).val * 1024 + r, by have : (grid0.coords t 1).val < 2 := (grid0.coords t 1).isLt; omega⟩

/-- The four vectors. -/
theorem block0 (t : Fin cfg0.N) (a : Fin 4) (i : Fin 64) : iblk m c 0 t (ix2 a i) = V m c main_arg5 (ix2 a i) := by
  unfold iblk
  generalize V m c main_arg5 = X
  have e : ((cfg0.win 0).blk t).view.emb (ix2 a i) = ix2 a i := by
    funext a
    apply Fin.ext
    match a with
    | ⟨0, _⟩ => blk_simp [idx0 t]; try rfl
    | ⟨1, _⟩ => blk_simp [idx0 t]; try rfl
  rw [View.read_apply, e]
  exact cast_eq _ _

/-- The gain. -/
theorem block1 (t : Fin cfg0.N) (a : Fin 128) : iblk m c 1 t (ix2 a (0 : Fin 1)) = V m c main_v8 (ix2 a (0 : Fin 1)) := by
  unfold iblk
  generalize V m c main_v8 = X
  have e : ((cfg0.win 1).blk t).view.emb (ix2 a (0 : Fin 1)) = ix2 a (0 : Fin 1) := by
    funext a
    apply Fin.ext
    match a with
    | ⟨0, _⟩ => blk_simp [idx1 t]; try rfl
    | ⟨1, _⟩ => blk_simp [idx1 t]; try rfl
  rw [View.read_apply, e]
  exact cast_eq _ _

/-- The block of queries. -/
theorem block2 (t : Fin cfg0.N) (j : Fin 512) (r : Fin 1024) : iblk m c 2 t (ix3 (0 : Fin 1) j r) = V m c main_v7 (ix3 (batch t) j (token t r)) := by
  unfold iblk
  generalize V m c main_v7 = X
  have e : ((cfg0.win 2).blk t).view.emb (ix3 (0 : Fin 1) j r) = ix3 (batch t) j (token t r) := by
    funext a
    apply Fin.ext
    match a with
    | ⟨0, _⟩ => blk_simp [idx2 t, batch, token]; try rfl
    | ⟨1, _⟩ => blk_simp [idx2 t, batch, token]; try rfl
    | ⟨2, _⟩ => blk_simp [idx2 t, batch, token]; try rfl
  rw [View.read_apply, e]
  exact cast_eq _ _

/-- The block of latent keys. -/
theorem block3 (t : Fin cfg0.N) (s : Fin 2048) (j : Fin 512) : iblk m c 3 t (ix3 (0 : Fin 1) s j) = V m c main_v10 (ix3 (batch t) s j) := by
  unfold iblk
  generalize V m c main_v10 = X
  have e : ((cfg0.win 3).blk t).view.emb (ix3 (0 : Fin 1) s j) = ix3 (batch t) s j := by
    funext a
    apply Fin.ext
    match a with
    | ⟨0, _⟩ => blk_simp [idx3 t, batch]; try rfl
    | ⟨1, _⟩ => blk_simp [idx3 t, batch]; try rfl
    | ⟨2, _⟩ => blk_simp [idx3 t, batch]; try rfl
  rw [View.read_apply, e]
  exact cast_eq _ _

/-- The block of context keys. -/
theorem block4 (t : Fin cfg0.N) (s : Fin 256) (j : Fin 512) : iblk m c 4 t (ix3 (0 : Fin 1) s j) = V m c main_v17 (ix3 (batch t) s j) := by
  unfold iblk
  generalize V m c main_v17 = X
  have e : ((cfg0.win 4).blk t).view.emb (ix3 (0 : Fin 1) s j) = ix3 (batch t) s j := by
    funext a
    apply Fin.ext
    match a with
    | ⟨0, _⟩ => blk_simp [idx4 t, batch]; try rfl
    | ⟨1, _⟩ => blk_simp [idx4 t, batch]; try rfl
    | ⟨2, _⟩ => blk_simp [idx4 t, batch]; try rfl
  rw [View.read_apply, e]
  exact cast_eq _ _

/-- The block of latent values. -/
theorem block5 (t : Fin cfg0.N) (j : Fin 576) (s : Fin 2048) : iblk m c 5 t (ix3 (0 : Fin 1) j s) = V m c main_v15 (ix3 (batch t) j s) := by
  unfold iblk
  generalize V m c main_v15 = X
  have e : ((cfg0.win 5).blk t).view.emb (ix3 (0 : Fin 1) j s) = ix3 (batch t) j s := by
    funext a
    apply Fin.ext
    match a with
    | ⟨0, _⟩ => blk_simp [idx5 t, batch]; try rfl
    | ⟨1, _⟩ => blk_simp [idx5 t, batch]; try rfl
    | ⟨2, _⟩ => blk_simp [idx5 t, batch]; try rfl
  rw [View.read_apply, e]
  exact cast_eq _ _

/-- The block of context values. -/
theorem block6 (t : Fin cfg0.N) (j : Fin 576) (s : Fin 256) : iblk m c 6 t (ix3 (0 : Fin 1) j s) = V m c main_v22 (ix3 (batch t) j s) := by
  unfold iblk
  generalize V m c main_v22 = X
  have e : ((cfg0.win 6).blk t).view.emb (ix3 (0 : Fin 1) j s) = ix3 (batch t) j s := by
    funext a
    apply Fin.ext
    match a with
    | ⟨0, _⟩ => blk_simp [idx6 t, batch]; try rfl
    | ⟨1, _⟩ => blk_simp [idx6 t, batch]; try rfl
    | ⟨2, _⟩ => blk_simp [idx6 t, batch]; try rfl
  rw [View.read_apply, e]
  exact cast_eq _ _

/-- With finite inputs, the kernel's result array is the reference's result over the same arguments. -/
theorem final (fin : Finite (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))) :
    (dats m 0 c).arrAt 7 cfg0.N = val_main_v58 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  refine (dats m 0 c).arrAt_eq_of_covers 7 _ (by decide +kernel) fun t hf y => ?_
  have e := congrFun (Value.flushed7_A m c t) y
  refine e.trans ?_
  rw [Pipeline.Window.cut_apply]
  have hy1 : ((y 1 : ℕ)) < 1024 := (y 1).isLt
  have hy2 : ((y 2 : ℕ)) < 512 := (y 2).isLt
  have hb : (cfg0.win 7).xinj (grid0.coords t) y = ix3 (0 : Fin 1) (⟨y 1, hy1⟩ : Fin 1024) (⟨y 2, hy2⟩ : Fin 512) := by
    funext a
    match a with
    | ⟨0, _⟩ => exact Subsingleton.elim (α := Fin 1) _ _
    | ⟨1, _⟩ => rfl
    | ⟨2, _⟩ => rfl
  have ha : ((cfg0.win 7).blk t).view.emb y = ix3 (batch t) (token t ⟨y 1, hy1⟩) (⟨y 2, hy2⟩ : Fin 512) := by
    funext a
    apply Fin.ext
    match a with
    | ⟨0, _⟩ => blk_simp [idx7 t, batch]
    | ⟨1, _⟩ => blk_simp [idx7 t, token]; try rfl
    | ⟨2, _⟩ => blk_simp [idx7 t]; rfl
  rw [hb, ha]
  exact point _ _ _ _ _ _ _ _ _ _ _ _ _ _ (batch t) fin _ _ _ _ _ _ _ _ _ _ _ _ _ _ _ _ _ _ _ _ _ _ (token t)
    (V m c main_arg5) (V m c main_v8) (V m c main_v7) (V m c main_v10) (V m c main_v17) (V m c main_v15) (V m c main_v22)
    (V_l m c) (V_g m c) (V_q m c) (V_k m c) (V_kx m c) (V_v m c) (V_vx m c)
    (block0 m c t) (block1 m c t) (block2 m c t) (block3 m c t) (block4 m c t) (block5 m c t) (block6 m c t) _ _

end Cert.Kernel6Ideal.Out

end
-- ==== Proof.DiffClaims.lean ====
module

public import proofs.«01_k».proof.Defs
public import proofs.«01_k».proof.Proof.DiffArray
public import proofs.«01_k».proof.Proof.AttnClaims
public import proofs.«01_k».proof.Proof.Gen.Reference6Ideal.Run
public import proofs.«01_k».proof.Proof.Gen.Pre_differential_inputs_finite
public import proofs.«01_k».proof.Proof.Gen.Kernel6.Frame
public import Idealize.ShloMosaic.Adequacy
public import Idealize.ShloMosaic.Init

@[expose] public section

noncomputable section

open Idealize.ShloMosaic Idealize.SL.Sem

/-! The claims of the differential attention: the reference's frame, and the value claim with finite inputs. -/

namespace Cert.Attn

theorem reference6_frame : Cert.quiescent_Reference6Ideal := fun m ρ _ =>
  (θ_run _ _ _).mono (fun r h => ⟨fun c => (h c).2, sem_eq_zero_of_no_sems (by decide) r.2⟩)
    (Cert.Reference6Ideal.Value.run (F := Ideal) m ρ)

/-- With finite inputs, kernel and reference end with the same array. -/
theorem algebraic6 : Cert.algebraic_Kernel6Ideal_Reference6Ideal_pre_differential_inputs_finite := by
  intro m ρ m' ρ' hpre hagree
  refine ⟨fun c => (Cert.Kernel6Ideal.Gen.dats m 0 c).arrAt 7 Cert.Kernel6Ideal.cfg0.N, Cert.Kernel6Ideal.Value.run_blocks m ρ, ?_⟩
  refine (θ_run _ _ _).mono (fun _ h c => ⟨(h c).1.trans ?_, (h c).2⟩) (Cert.Reference6Ideal.Value.run (F := Ideal) m' ρ')
  obtain ⟨h0, h1, h2, h3, h4, h5, h6⟩ := hagree c
  obtain ⟨p0, p1, p2, p3, p4, p5⟩ := hpre c
  refine (Cert.Reference6Ideal.Read.val_main_v58_eq m' c).trans (Eq.trans ?_ (Cert.Kernel6Ideal.Out.final m c
    ⟨isReal_of_mask _ _ _ p0, isReal_of_mask _ _ _ p1, isReal_of_mask _ _ _ p2, isReal_of_mask _ _ _ p3, isReal_of_mask _ _ _ p4, isReal_of_mask _ _ _ p5⟩).symm)
  rw [h0, h1, h2, h3, h4, h5, h6]

end Cert.Attn

end
-- ==== Proof.FfnOut.lean ====
module

public import proofs.«01_k».proof.Defs
public import proofs.«01_k».proof.Proof.Gen.Kernel2Ideal.Value
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen
variable {F : FTy → Type} [FloatOps F]
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer, after stores of which the last filled it, reads that last store's payload. -/
theorem readCov_last {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The gated activation of one block of 256 columns, for any number of rows: `silu (h · wg) * (h · wu)`. -/
def actBlock {n : ℕ} (h : FVec F ⟨2, ![n, 1024]⟩ .bf16) (wg wu : Vec F S1x1024x256 .bf16) : FVec F ⟨2, ![n, 256]⟩ .f32 :=
  mulf (mulf (matmul (.plain n 1024 256) none h (shapeCast S1024x256 wg shapeCasts_S1x1024x256_S1024x256) (constant _ .f32 0x00000000#32))
      (divf (broadcast _ (Scalar.ofBits .f32 0x3F800000#32)) (addf (broadcast _ (Scalar.ofBits .f32 0x3F800000#32))
        (exp (subf (broadcast _ (Scalar.ofBits .f32 0x00000000#32))
          (matmul (.plain n 1024 256) none h (shapeCast S1024x256 wg shapeCasts_S1x1024x256_S1024x256) (constant _ .f32 0x00000000#32)))))))
    (matmul (.plain n 1024 256) none h (shapeCast S1024x256 wu shapeCasts_S1x1024x256_S1024x256) (constant _ .f32 0x00000000#32))

/-- That block's share of the down-projection. -/
def downBlock {n : ℕ} (h : FVec F ⟨2, ![n, 1024]⟩ .bf16) (wg wu : Vec F S1x1024x256 .bf16) (wd : Vec F S1x256x1024 .bf16) : FVec F ⟨2, ![n, 1024]⟩ .f32 :=
  matmul (.plain n 256 1024) none (truncf .bf16 (actBlock h wg wu) bitsLt_bf16_f32)
    (shapeCast S256x1024 wd shapeCasts_S1x256x1024_S256x1024) (constant _ .f32 0x00000000#32)

/-- Columns `o .. o + 256` of a `1024 × 2816` weight. -/
def colsAt (w : Vec F S1x1024x2816 .bf16) (o : ℕ) (h : ∀ a, ![0, 0, o] a + ![1, 1024, 256] a ≤ S1x1024x2816.size a) : Vec F S1x1024x256 .bf16 :=
  View.ld w (Rect.unit ![0, 0, o] ![1, 1024, 256] h)

/-- Rows `o .. o + 256` of the down-projection's weight. -/
def rowsAt (w : Vec F S1x2816x1024 .bf16) (o : ℕ) (h : ∀ a, ![0, o, 0] a + ![1, 256, 1024] a ≤ S1x2816x1024.size a) : Vec F S1x256x1024 .bf16 :=
  View.ld w (Rect.unit ![0, o, 0] ![1, 256, 1024] h)

/-- Row `j` of the modulation block. -/
def modAt (x3 : Vec F S1x9x1024 .f32) (j : ℕ) (h : ∀ a, ![0, j, 0] a + ![1, 1, 1024] a ≤ S1x9x1024.size a) : Vec F S1x1x1024 .f32 :=
  View.ld x3 (Rect.unit ![0, j, 0] ![1, 1, 1024] h)

/-- The residual stream after the attention's output projection. -/
def resid (x0 : Vec F S1x1024x1024 .f32) (x1 x2 : Vec F S1x1024x512 .bf16) (x3 : Vec F S1x9x1024 .f32) (x4 : Vec F S1x1024x1024 .bf16) : FVec F S1024x1024 .f32 :=
  k0_pay3 x0 x1 (View.ld x4 (Rect.unit ![0, 0, 0] ![1, 512, 1024] inb_S1x1024x1024_S1x512x1024_0_0_0)) x2
    (View.ld x4 (Rect.unit ![0, 512, 0] ![1, 512, 1024] inb_S1x1024x1024_S1x512x1024_0_512_0)) (modAt x3 5 inb_S1x9x1024_S1x1x1024_0_5_0)

/-- Its normalised and modulated rows, the input of the three weights. -/
def normed (x0 : Vec F S1x1024x1024 .f32) (x1 x2 : Vec F S1x1024x512 .bf16) (x3 : Vec F S1x9x1024 .f32) (x4 : Vec F S1x1024x1024 .bf16) : FVec F S1024x1024 .bf16 :=
  k0_pay8 (resid x0 x1 x2 x3 x4) (k0_pay4 (modAt x3 6 inb_S1x9x1024_S1x1x1024_0_6_0)) (k0_pay5 (modAt x3 7 inb_S1x9x1024_S1x1x1024_0_7_0))
    (k0_pay7 x0 x1 (View.ld x4 (Rect.unit ![0, 0, 0] ![1, 512, 1024] inb_S1x1024x1024_S1x512x1024_0_0_0)) x2
      (View.ld x4 (Rect.unit ![0, 512, 0] ![1, 512, 1024] inb_S1x1024x1024_S1x512x1024_0_512_0)) (modAt x3 5 inb_S1x9x1024_S1x1x1024_0_5_0))
    (Scalar.ofBits .f32 0x44800000#32)

/-- The eleven blocks added in order. -/
def downSum {n : ℕ} (h : FVec F ⟨2, ![n, 1024]⟩ .bf16) (x5 x6 : Vec F S1x1024x2816 .bf16) (x7 : Vec F S1x2816x1024 .bf16) : FVec F ⟨2, ![n, 1024]⟩ .f32 :=
  (addf (addf (addf (addf (addf (addf (addf (addf (addf (addf (downBlock h (colsAt x5 0 inb_S1x1024x2816_S1x1024x256_0_0_0) (colsAt x6 0 inb_S1x1024x2816_S1x1024x256_0_0_0) (rowsAt x7 0 inb_S1x2816x1024_S1x256x1024_0_0_0))
    (downBlock h (colsAt x5 256 inb_S1x1024x2816_S1x1024x256_0_0_256) (colsAt x6 256 inb_S1x1024x2816_S1x1024x256_0_0_256) (rowsAt x7 256 inb_S1x2816x1024_S1x256x1024_0_256_0)))
    (downBlock h (colsAt x5 512 inb_S1x1024x2816_S1x1024x256_0_0_512) (colsAt x6 512 inb_S1x1024x2816_S1x1024x256_0_0_512) (rowsAt x7 512 inb_S1x2816x1024_S1x256x1024_0_512_0)))
    (downBlock h (colsAt x5 768 inb_S1x1024x2816_S1x1024x256_0_0_768) (colsAt x6 768 inb_S1x1024x2816_S1x1024x256_0_0_768) (rowsAt x7 768 inb_S1x2816x1024_S1x256x1024_0_768_0)))
    (downBlock h (colsAt x5 1024 inb_S1x1024x2816_S1x1024x256_0_0_1024) (colsAt x6 1024 inb_S1x1024x2816_S1x1024x256_0_0_1024) (rowsAt x7 1024 inb_S1x2816x1024_S1x256x1024_0_1024_0)))
    (downBlock h (colsAt x5 1280 inb_S1x1024x2816_S1x1024x256_0_0_1280) (colsAt x6 1280 inb_S1x1024x2816_S1x1024x256_0_0_1280) (rowsAt x7 1280 inb_S1x2816x1024_S1x256x1024_0_1280_0)))
    (downBlock h (colsAt x5 1536 inb_S1x1024x2816_S1x1024x256_0_0_1536) (colsAt x6 1536 inb_S1x1024x2816_S1x1024x256_0_0_1536) (rowsAt x7 1536 inb_S1x2816x1024_S1x256x1024_0_1536_0)))
    (downBlock h (colsAt x5 1792 inb_S1x1024x2816_S1x1024x256_0_0_1792) (colsAt x6 1792 inb_S1x1024x2816_S1x1024x256_0_0_1792) (rowsAt x7 1792 inb_S1x2816x1024_S1x256x1024_0_1792_0)))
    (downBlock h (colsAt x5 2048 inb_S1x1024x2816_S1x1024x256_0_0_2048) (colsAt x6 2048 inb_S1x1024x2816_S1x1024x256_0_0_2048) (rowsAt x7 2048 inb_S1x2816x1024_S1x256x1024_0_2048_0)))
    (downBlock h (colsAt x5 2304 inb_S1x1024x2816_S1x1024x256_0_0_2304) (colsAt x6 2304 inb_S1x1024x2816_S1x1024x256_0_0_2304) (rowsAt x7 2304 inb_S1x2816x1024_S1x256x1024_0_2304_0)))
    (downBlock h (colsAt x5 2560 inb_S1x1024x2816_S1x1024x256_0_0_2560) (colsAt x6 2560 inb_S1x1024x2816_S1x1024x256_0_0_2560) (rowsAt x7 2560 inb_S1x2816x1024_S1x256x1024_0_2560_0)))

set_option maxHeartbeats 4000000 in
/-- What the body leaves in the output's buffer, as a term of the input blocks. -/
theorem out_A (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024x512 .bf16) (harg4 : arg4.IsWhole) (arg5 : Memref sig .tc .vmem S1x9x1024 .f32) (harg5 : arg5.IsWhole) (arg6 : Memref sig .tc .vmem S1x1024x1024 .bf16) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024x1024 .f32) (harg10 : arg10.IsWhole) (arg11 : Memref sig .tc .vmem S1024x1024 .f32) (harg11 : arg11.IsWhole)
    (x0 : Vec F S1x1024x1024 .f32) (x1 : Vec F S1x1024x512 .bf16) (x2 : Vec F S1x1024x512 .bf16) (x3 : Vec F S1x9x1024 .f32) (x4 : Vec F S1x1024x1024 .bf16) (x5 : Vec F S1x1024x2816 .bf16) (x6 : Vec F S1x1024x2816 .bf16) (x7 : Vec F S1x2816x1024 .bf16) :
    out0_A_8 c i arg2 harg2 arg3 harg3 arg4 harg4 arg5 harg5 arg6 harg6 arg7 harg7 arg8 harg8 arg9 harg9 arg10 harg10 arg11 harg11 x0 x1 x2 x3 x4 x5 x6 x7 =
    k0_pay2 (resid x0 x1 x2 x3 x4) (k0_pay6 (modAt x3 8 inb_S1x9x1024_S1x1x1024_0_8_0)) (downSum (normed x0 x1 x2 x3 x4) x5 x6 x7) := by
  unfold out0_A_8
  rw [View.read_writes_eq_canon _ _ _ (fun y => cover0_A_8 _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x1024x1024) hz3,View.ld_unit_zero (S := S1x1024x512) hz3, View.canon_cons_unit_zero (S := S1024x1024) hz2, readCov_last (S := S1024x1024) _ hz2]
  unfold k0_pay1 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31
  simp only [shapeCast_self]
  rfl

end Cert.Kernel2Ideal.Out

end
-- ==== Proof.FfnEq.lean ====
module

public import Idealize.ShloMosaic.Lib.Pointwise

@[expose] public section

noncomputable section

open Idealize.ShloMosaic

/-! The feed-forward half-step of one token, as scalar arithmetic over the extended reals. -/

namespace Cert.Ffn

/-- A token's features, normalised by their mean square and modulated by a scale and a shift. -/
def normRow (X sh sc : Fin 1024 → EReal) (d : Fin 1024) : EReal :=
  X d * Ideal.rsqrt (Ideal.div (∑ e, X e * X e) (Ideal.ofBits FTy.f32 1149239296#32) + Ideal.ofBits FTy.f32 897988541#32)
    * (1 + sc d) + sh d

/-- One hidden feature: `silu (h · wg) * (h · wu)`. -/
def actRow (h : Fin 1024 → EReal) (wg wu : Fin 1024 → Fin 2816 → EReal) (f : Fin 2816) : EReal :=
  (∑ k, h k * wg k f) * Ideal.div 1 (1 + Ideal.exp (-∑ k, h k * wg k f)) * ∑ k, h k * wu k f

/-- The token after the half-step: half the gate times the down-projection, added. -/
def ffnRow (X sh sc g : Fin 1024 → EReal) (wg wu : Fin 1024 → Fin 2816 → EReal) (wd : Fin 2816 → Fin 1024 → EReal)
    (d : Fin 1024) : EReal :=
  X d + Ideal.ofBits FTy.f32 1056964608#32 * g d * ∑ f, actRow (normRow X sh sc) wg wu f * wd f d

/-- A sum over the 2816 hidden features, cut into the eleven blocks of 256. -/
theorem sum_blocks (A : Fin 2816 → EReal) :
    ∑ f, A f = (∑ x : Fin 256, A ⟨0 + x, by omega⟩) + (∑ x : Fin 256, A ⟨256 + x, by omega⟩) + (∑ x : Fin 256, A ⟨512 + x, by omega⟩)
      + (∑ x : Fin 256, A ⟨768 + x, by omega⟩) + (∑ x : Fin 256, A ⟨1024 + x, by omega⟩) + (∑ x : Fin 256, A ⟨1280 + x, by omega⟩)
      + (∑ x : Fin 256, A ⟨1536 + x, by omega⟩) + (∑ x : Fin 256, A ⟨1792 + x, by omega⟩) + (∑ x : Fin 256, A ⟨2048 + x, by omega⟩)
      + (∑ x : Fin 256, A ⟨2304 + x, by omega⟩) + (∑ x : Fin 256, A ⟨2560 + x, by omega⟩) := by
  have cut (n : ℕ) (hn : n + 256 ≤ 2816) : ∑ f : Fin (n + 256), A ⟨f, by omega⟩
      = (∑ f : Fin n, A ⟨f, by omega⟩) + ∑ x : Fin 256, A ⟨n + x, by omega⟩ := Fin.sum_univ_add _
  refine (cut 2560 (by omega)).trans ?_
  rw [cut 2304 (by omega), cut 2048 (by omega), cut 1792 (by omega), cut 1536 (by omega), cut 1280 (by omega), cut 1024 (by omega),
    cut 768 (by omega), cut 512 (by omega), cut 256 (by omega)]
  simp only [Nat.zero_add]

end Cert.Ffn

end
-- ==== Proof.FfnRows.lean ====
module

public import proofs.«01_k».proof.Proof.FfnOut
public import proofs.«01_k».proof.Proof.FfnEq
public import Idealize.ShloMosaic.Lib.MatmulPlain

@[expose] public section

noncomputable section

open Idealize.ShloMosaic Idealize.ShloMosaic.TcCoe Idealize.SL.Sem

namespace Cert.Kernel2Ideal.Out

open Cert.Ffn Cert.Kernel2Ideal Cert.Kernel2Ideal.Gen

variable (x0 : Vec Ideal S1x1024x1024 .f32) (x1 x2 : Vec Ideal S1x1024x512 .bf16) (x3 : Vec Ideal S1x9x1024 .f32)
  (x4 : Vec Ideal S1x1024x1024 .bf16) (x5 x6 : Vec Ideal S1x1024x2816 .bf16) (x7 : Vec Ideal S1x2816x1024 .bf16)

/-- The residual stream, at a row and a feature. -/
theorem resid_apply (r d : Fin 1024) :
    resid x0 x1 x2 x3 x4 (ix2 r d) = x0 (ix3 0 r d) + x3 (ix3 0 5 d)
      * (∑ k : Fin 512, x1 (ix3 0 r k) * x4 (ix3 0 ⟨k, by omega⟩ d) + ∑ k : Fin 512, x2 (ix3 0 r k) * x4 (ix3 0 ⟨512 + k, by omega⟩ d)) := by
  unfold resid modAt k0_pay3
  pointwise [dot_S1024x512_S512x1024_S1024x1024_1_0_0_1_n_n]

/-- The normalised rows, at a row and a feature. -/
theorem normed_apply (r d : Fin 1024) :
    normed x0 x1 x2 x3 x4 (ix2 r d) = normRow (fun e => resid x0 x1 x2 x3 x4 (ix2 r e)) (fun e => x3 (ix3 0 6 e)) (fun e => x3 (ix3 0 7 e)) d := by
  unfold normed normRow k0_pay8 k0_pay7 k0_pay5 k0_pay4 modAt
  pointwise
  rfl

/-- A product with a block of 256 columns, at a row and a column. -/
theorem cols_apply {n : ℕ} (h : FVec Ideal ⟨2, ![n, 1024]⟩ .bf16) (w : Vec Ideal S1x1024x2816 .bf16) (o : ℕ) (ho : o + 256 ≤ 2816) (h1) (r : Fin n) (x : Fin 256) :
    matmul (φ₂ := .bf16) (.plain n 1024 256) none h (shapeCast S1024x256 (colsAt w o h1) shapeCasts_S1x1024x256_S1024x256) (constant (F := Ideal) _ .f32 0x00000000#32) (ix2 r x)
      = ∑ k, h (ix2 r k) * w (ix3 0 k ⟨o + x, by omega⟩) := by
  refine (Ideal.matmul_plain_apply ..).trans ?_
  unfold colsAt
  pointwise
  rfl

/-- The gated activation of a block of 256 columns, at a row and a column. -/
theorem act_apply {n : ℕ} (h : FVec Ideal ⟨2, ![n, 1024]⟩ .bf16) (o : ℕ) (ho : o + 256 ≤ 2816) (h1 h2) (r : Fin n) (x : Fin 256) :
    actBlock h (colsAt x5 o h1) (colsAt x6 o h2) (ix2 r x)
      = actRow (fun k => h (ix2 r k)) (fun k f => x5 (ix3 0 k f)) (fun k f => x6 (ix3 0 k f)) ⟨o + x, by omega⟩ := by
  have e := cols_apply h x5 o ho h1 r x
  have e' := cols_apply h x6 o ho h2 r x
  unfold actBlock actRow
  rw [← e, ← e']
  generalize matmul (φ₂ := .bf16) (.plain n 1024 256) none h (shapeCast S1024x256 (colsAt x5 o h1) shapeCasts_S1x1024x256_S1024x256) (constant (F := Ideal) _ .f32 0x00000000#32) = G
  generalize matmul (φ₂ := .bf16) (.plain n 1024 256) none h (shapeCast S1024x256 (colsAt x6 o h2) shapeCasts_S1x1024x256_S1024x256) (constant (F := Ideal) _ .f32 0x00000000#32) = U
  pointwise [zero_sub]

/-- One block's share of the down-projection, at a row and a feature. -/
theorem down_apply {n : ℕ} (h : FVec Ideal ⟨2, ![n, 1024]⟩ .bf16) (o : ℕ) (ho : o + 256 ≤ 2816) (h1 h2 h3) (r : Fin n) (d : Fin 1024) :
    downBlock h (colsAt x5 o h1) (colsAt x6 o h2) (rowsAt x7 o h3) (ix2 r d)
      = ∑ x : Fin 256, actRow (fun k => h (ix2 r k)) (fun k f => x5 (ix3 0 k f)) (fun k f => x6 (ix3 0 k f)) ⟨o + x, by omega⟩ * x7 (ix3 0 ⟨o + x, by omega⟩ d) := by
  unfold downBlock
  refine (Ideal.matmul_plain_apply ..).trans ?_
  unfold rowsAt
  pointwise
  exact Finset.sum_congr rfl fun x _ => congrArg (· * x7 (ix3 0 ⟨o + x, by omega⟩ d)) (act_apply x5 x6 h o ho h1 h2 r x)

/-- The eleven blocks' sum is the sum over all hidden features. -/
theorem downSum_apply {n : ℕ} (h : FVec Ideal ⟨2, ![n, 1024]⟩ .bf16) (r : Fin n) (d : Fin 1024) :
    downSum h x5 x6 x7 (ix2 r d)
      = ∑ f, actRow (fun k => h (ix2 r k)) (fun k f => x5 (ix3 0 k f)) (fun k f => x6 (ix3 0 k f)) f * x7 (ix3 0 f d) := by
  unfold downSum
  pointwise
  rw [sum_blocks, down_apply x5 x6 x7 h 0 (by omega), down_apply x5 x6 x7 h 256 (by omega), down_apply x5 x6 x7 h 512 (by omega), down_apply x5 x6 x7 h 768 (by omega),
    down_apply x5 x6 x7 h 1024 (by omega), down_apply x5 x6 x7 h 1280 (by omega), down_apply x5 x6 x7 h 1536 (by omega), down_apply x5 x6 x7 h 1792 (by omega),
    down_apply x5 x6 x7 h 2048 (by omega), down_apply x5 x6 x7 h 2304 (by omega), down_apply x5 x6 x7 h 2560 (by omega)]

/-- What the body leaves, at a row and a feature: the half-step of that row. -/
theorem out_apply (r d : Fin 1024) :
    k0_pay2 (resid x0 x1 x2 x3 x4) (k0_pay6 (modAt x3 8 inb_S1x9x1024_S1x1x1024_0_8_0)) (downSum (normed x0 x1 x2 x3 x4) x5 x6 x7) (ix3 0 r d)
      = ffnRow (fun e => resid x0 x1 x2 x3 x4 (ix2 r e)) (fun e => x3 (ix3 0 6 e)) (fun e => x3 (ix3 0 7 e)) (fun e => x3 (ix3 0 8 e))
          (fun k f => x5 (ix3 0 k f)) (fun k f => x6 (ix3 0 k f)) (fun f e => x7 (ix3 0 f e)) d := by
  unfold k0_pay2 k0_pay6 modAt ffnRow
  pointwise [downSum_apply, normed_apply]

end Cert.Kernel2Ideal.Out

end
-- ==== Proof.FfnRef.lean ====
module

public import proofs.«01_k».proof.Proof.Gen.Reference2Ideal.Read
public import proofs.«01_k».proof.Proof.FfnEq

@[expose] public section

noncomputable section

open Idealize.ShloMosaic Idealize.ShloMosaic.TcCoe Idealize.SL.Sem

namespace Cert.Reference2Ideal.Rows

open Cert.Ffn Cert.Reference2Ideal Cert.Reference2Ideal.Gen Cert.Reference2Ideal.Read

variable (x0 : FVec Ideal S16x2048x1024 .f32) (x1 x2 : FVec Ideal S16x2048x512 .bf16) (x3 : FVec Ideal S24x9x1024 .f32)
  (x4 : FVec Ideal S1x1024x1024 .bf16) (x5 x6 : FVec Ideal S2x1024x2816 .bf16) (x7 : FVec Ideal S2x2816x1024 .bf16)

/-- The residual stream, at an index. -/
theorem v35_apply (b : Fin 16) (s : Fin 2048) (d : Fin 1024) :
    val_main_v35 (F := Ideal) x0 x1 x2 x3 x4 (ix3 b s d) = x0 (ix3 b s d) + x3 (ix3 ⟨b, by omega⟩ 5 d)
      * (∑ k : Fin 512, x1 (ix3 b s k) * x4 (ix3 0 ⟨k, by omega⟩ d) + ∑ k : Fin 512, x2 (ix3 b s k) * x4 (ix3 0 ⟨512 + k, by omega⟩ d)) := by
  unfold val_main_v35 val_main_v34 val_main_v33 val_main_v32 val_main_v31 val_main_v30 val_main_v29 val_main_v28 val_main_v27 val_main_v17 val_main_v16 val_main_v15
  pointwise [dot_S16x2048x1024_S1024x1024_S16x2048x1024_2_0_01_1_n_n]

/-- The normalised rows, at an index. -/
theorem v53_apply (b : Fin 16) (s : Fin 2048) (d : Fin 1024) :
    val_main_v53 (F := Ideal) x0 x1 x2 x3 x4 (ix3 b s d) = normRow (fun e => val_main_v35 (F := Ideal) x0 x1 x2 x3 x4 (ix3 b s e))
      (fun e => x3 (ix3 ⟨b, by omega⟩ 6 e)) (fun e => x3 (ix3 ⟨b, by omega⟩ 7 e)) d := by
  unfold val_main_v53 val_main_v52 val_main_v51 val_main_v50 val_main_v49 val_main_v48 val_main_v47 val_main_v46 val_main_v45 val_main_v44 val_main_v43 val_main_v42 val_main_v41 val_main_v40 val_main_v39 val_main_v38 val_main_cst_0 val_main_cst_1 val_main_cst_2 val_main_cst_3 val_main_v23 val_main_v22 val_main_v21 val_main_v20 val_main_v19 val_main_v18 normRow
  pointwise

/-- The gate's product, at an index. -/
theorem v63_apply (b : Fin 16) (s : Fin 2048) (f : Fin 2816) :
    val_main_v63 (F := Ideal) x0 x1 x2 x3 x4 x5 (ix3 b s f) = ∑ k, val_main_v53 (F := Ideal) x0 x1 x2 x3 x4 (ix3 b s k) * x5 (ix3 1 k f) := by
  unfold val_main_v63 val_main_v56 val_main_v55 val_main_v54
  pointwise [dot_S16x2048x1024_S1024x2816_S16x2048x2816_2_0_01_1_n_n]

/-- The result, at an index: the half-step of that row. -/
theorem v70_apply (b : Fin 16) (s : Fin 2048) (d : Fin 1024) :
    val_main_v70 (F := Ideal) x0 x1 x2 x3 x4 x5 x6 x7 (ix3 b s d)
      = ffnRow (fun e => val_main_v35 (F := Ideal) x0 x1 x2 x3 x4 (ix3 b s e)) (fun e => x3 (ix3 ⟨b, by omega⟩ 6 e)) (fun e => x3 (ix3 ⟨b, by omega⟩ 7 e))
          (fun e => x3 (ix3 ⟨b, by omega⟩ 8 e)) (fun k f => x5 (ix3 1 k f)) (fun k f => x6 (ix3 1 k f)) (fun f e => x7 (ix3 1 f e)) d := by
  unfold val_main_v70 val_main_v69 val_main_v68 val_main_v67 val_main_v66 val_main_v65 val_main_v64 val_main_v62 val_main_v61 val_main_v60 val_main_v59 val_main_v58 val_main_v57 val_main_call0_v5 val_main_call0_v4 val_main_call0_cst_0 val_main_call0_v3 val_main_call0_v2 val_main_call0_cst val_main_call0_v1 val_main_call0_v0 val_main_v37 val_main_v36 val_main_cst val_main_v26 val_main_v25 val_main_v24
  pointwise [dot_S16x2048x1024_S1024x2816_S16x2048x2816_2_0_01_1_n_n, dot_S16x2048x2816_S2816x1024_S16x2048x1024_2_0_01_1_n_n, v63_apply, v53_apply, ffnRow, actRow]

end Cert.Reference2Ideal.Rows

end
-- ==== Proof.FfnArray.lean ====
module

public import proofs.«01_k».proof.Proof.FfnRows
public import proofs.«01_k».proof.Proof.FfnRef
public import proofs.«01_k».proof.Proof.Gen.Kernel2Ideal.Value
public import proofs.«01_k».proof.Proof.Gen.Reference2Ideal.Run
public import Idealize.ShloMosaic.Lib.Pipeline.ValueKit.Point

@[expose] public section

set_option maxHeartbeats 1600000

noncomputable section

open Idealize.ShloMosaic Idealize.SL.Sem Cert.Ffn Cert.Kernel2Ideal Cert.Kernel2Ideal.Gen

/-! The feed-forward kernel's blocks, put together: the result array is the reference's. -/

namespace Cert.Kernel2Ideal.Out

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, (grid0.coords t 1).val, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, 0, 0] :=
  (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![1, 0, 0] := (by decide +kernel : ∀ t : Fin grid0.N, _)
theorem idx6 : ∀ t : Fin cfg0.N, win0_6.index t = ![1, 0, 0] := (by decide +kernel : ∀ t : Fin grid0.N, _)
theorem idx7 : ∀ t : Fin cfg0.N, win0_7.index t = ![1, 0, 0] := (by decide +kernel : ∀ t : Fin grid0.N, _)
theorem idx8 : ∀ t : Fin cfg0.N, win0_8.index t = ![(grid0.coords t 0).val, (grid0.coords t 1).val, 0] :=
  (by decide +kernel : ∀ t : Fin grid0.N, _)

/-- Where the blocks are the arrays at batch `b` and rows `ρ`, the body's rows are the reference's. -/
theorem point (x0 : FVec Ideal S1x1024x1024 .f32) (x1 x2 : FVec Ideal S1x1024x512 .bf16) (x3 : FVec Ideal S1x9x1024 .f32) (x4 : FVec Ideal S1x1024x1024 .bf16)
    (x5 x6 : FVec Ideal S1x1024x2816 .bf16) (x7 : FVec Ideal S1x2816x1024 .bf16)
    (X0 : FVec Ideal S16x2048x1024 .f32) (X1 X2 : FVec Ideal S16x2048x512 .bf16) (X3 : FVec Ideal S24x9x1024 .f32) (X4 : FVec Ideal S1x1024x1024 .bf16)
    (X5 X6 : FVec Ideal S2x1024x2816 .bf16) (X7 : FVec Ideal S2x2816x1024 .bf16) (b : Fin 16) (ρ : Fin 1024 → Fin 2048)
    (h0 : ∀ r d, x0 (ix3 0 r d) = X0 (ix3 b (ρ r) d)) (h1 : ∀ r d, x1 (ix3 0 r d) = X1 (ix3 b (ρ r) d)) (h2 : ∀ r d, x2 (ix3 0 r d) = X2 (ix3 b (ρ r) d))
    (h3 : ∀ j d, x3 (ix3 0 j d) = X3 (ix3 ⟨b, by omega⟩ j d)) (h4 : ∀ k d, x4 (ix3 0 k d) = X4 (ix3 0 k d))
    (h5 : ∀ k f, x5 (ix3 0 k f) = X5 (ix3 1 k f)) (h6 : ∀ k f, x6 (ix3 0 k f) = X6 (ix3 1 k f)) (h7 : ∀ f d, x7 (ix3 0 f d) = X7 (ix3 1 f d)) (r d : Fin 1024) :
    (k0_pay2 (F := Ideal) (resid x0 x1 x2 x3 x4) (k0_pay6 (modAt x3 8 inb_S1x9x1024_S1x1x1024_0_8_0)) (downSum (F := Ideal) (normed x0 x1 x2 x3 x4) x5 x6 x7) (ix3 0 r d) : EReal)
      = Cert.Reference2Ideal.Read.val_main_v70 (F := Ideal) X0 X1 X2 X3 X4 X5 X6 X7 (ix3 b (ρ r) d) := by
  rw [out_apply, Cert.Reference2Ideal.Rows.v70_apply]
  simp only [resid_apply, Cert.Reference2Ideal.Rows.v35_apply, h0, h1, h2, h3, h4, h5, h6, h7]

variable (m : (ℓ : Loc nD τ sig) → Buf (Elt Ideal) ℓ) (c : Dev nD)

/-- The kernel's result array is the reference's result over the same arguments. -/
theorem final : (dats m 0 c).arrAt 8 cfg0.N = Cert.Reference2Ideal.Read.val_main_v70 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  refine (dats m 0 c).arrAt_eq_of_covers 8 _ (by decide +kernel) fun t hf y => ?_
  have e := congrFun (Value.flushed8_A m c t) y
  rw [out_A] at e
  refine e.trans ?_
  rw [Pipeline.Window.cut_apply]
  have hy1 : ((y 1 : ℕ)) < 1024 := (y 1).isLt
  have hy2 : ((y 2 : ℕ)) < 1024 := (y 2).isLt
  have ht0 : (grid0.coords t 0).val < 16 := (grid0.coords t 0).isLt
  have ht1 : (grid0.coords t 1).val < 2 := (grid0.coords t 1).isLt
  have hb : (cfg0.win 8).xinj (grid0.coords t) y = ix3 (0 : Fin 1) (⟨y 1, hy1⟩ : Fin 1024) (⟨y 2, hy2⟩ : Fin 1024) := by
    funext a
    match a with
    | ⟨0, _⟩ => exact Subsingleton.elim (α := Fin 1) _ _
    | ⟨1, _⟩ => rfl
    | ⟨2, _⟩ => rfl
  have ha : ((cfg0.win 8).blk t).view.emb y = ix3 (⟨(grid0.coords t 0).val, ht0⟩ : Fin 16)
      (⟨(grid0.coords t 1).val * 1024 + (⟨y 1, hy1⟩ : Fin 1024), by omega⟩ : Fin 2048) (⟨y 2, hy2⟩ : Fin 1024) := by
    funext a
    apply Fin.ext
    match a with
    | ⟨0, _⟩ => blk_simp [idx8 t]
    | ⟨1, _⟩ => blk_simp [idx8 t]; rfl
    | ⟨2, _⟩ => blk_simp [idx8 t]; rfl
  rw [hb, ha]
  refine point _ _ _ _ _ _ _ _ _ _ _ _ _ _ _ _ ⟨(grid0.coords t 0).val, ht0⟩ (fun r => ⟨(grid0.coords t 1).val * 1024 + r, by omega⟩) ?_ ?_ ?_ ?_ ?_ ?_ ?_ ?_ _ _
  all_goals intro r d
  · blk_ext! [iblk, V, idx0 t]
  · blk_ext! [iblk, V, idx1 t]
  · blk_ext! [iblk, V, idx2 t]
  · blk_ext! [iblk, V, idx3 t]
  · blk_ext! [iblk, V, idx4 t]
  · blk_ext! [iblk, V, idx5 t]
  · blk_ext! [iblk, V, idx6 t]
  · blk_ext! [iblk, V, idx7 t]

end Cert.Kernel2Ideal.Out

end
-- ==== Proof.Ffn3Out.lean ====
module

public import proofs.«01_k».proof.Defs
public import proofs.«01_k».proof.Proof.Gen.Kernel3Ideal.Value
public import proofs.«01_k».proof.Proof.FfnRows

@[expose] public section

noncomputable section

open Idealize.ShloMosaic Idealize.ShloMosaic.TcCoe Idealize.SL.Sem

/-! The half-step without an output projection: what its body leaves, and its rows. -/

namespace Cert.Kernel3Ideal.Out

open Cert.Kernel3Ideal Cert.Kernel3Ideal.Gen Cert.Ffn
open Cert.Kernel2Ideal.Out (hz2 hz3 readCov_last actBlock downBlock colsAt rowsAt modAt downSum downSum_apply)

section
variable {F : FTy → Type} [FloatOps F]

/-- The normalised and modulated rows, the input of the three weights. -/
def normed (x0 : Vec F S1x1024x1024 .f32) (x1 : Vec F S1x9x1024 .f32) : FVec F S1024x1024 .bf16 :=
  k0_pay4 x0 (modAt x1 0 inb_S1x9x1024_S1x1x1024_0_0_0) (modAt x1 1 inb_S1x9x1024_S1x1x1024_0_1_0)

set_option maxHeartbeats 4000000 in
/-- What the body leaves in the output's buffer, as a term of the input blocks. -/
theorem out_A (c : Dev nD) (i : grid0.Coords) (arg2 : Memref sig .tc .vmem S1x1024x1024 .f32) (harg2 : arg2.IsWhole) (arg3 : Memref sig .tc .vmem S1x9x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1024x1024 .f32) (harg7 : arg7.IsWhole) (arg8 : Memref sig .tc .vmem S1024x1024 .f32) (harg8 : arg8.IsWhole)
    (x0 : Vec F S1x1024x1024 .f32) (x1 : Vec F S1x9x1024 .f32) (x2 : Vec F S1x1024x2816 .bf16) (x3 : Vec F S1x1024x2816 .bf16) (x4 : Vec F S1x2816x1024 .bf16) :
    out0_A_5 c i arg2 harg2 arg3 harg3 arg4 harg4 arg5 harg5 arg6 harg6 arg7 harg7 arg8 harg8 x0 x1 x2 x3 x4 =
    k0_pay1 (k0_pay27 (k0_pay2 x0) (k0_pay3 (modAt x1 2 inb_S1x9x1024_S1x1x1024_0_2_0)) (downSum (normed x0 x1) x2 x3 x4)) := by
  unfold out0_A_5
  rw [View.read_writes_eq_canon _ _ _ (fun y => cover0_A_5 _ _ _ _ _ _ _ _ _ _ _ _ _ _ _ _ _ _ _ _ _ y)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x1024x1024) hz3, View.canon_cons_unit_zero (S := S1024x1024) hz2, readCov_last (S := S1024x1024) _ hz2]
  unfold k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26
  simp only [shapeCast_self]
  rfl

end

variable (x0 : Vec Ideal S1x1024x1024 .f32) (x1 : Vec Ideal S1x9x1024 .f32) (x2 x3 : Vec Ideal S1x1024x2816 .bf16) (x4 : Vec Ideal S1x2816x1024 .bf16)

/-- The normalised rows, at a row and a feature. -/
theorem normed_apply (r : Fin 1024) (d : Fin 1024) :
    normed x0 x1 (ix2 r d) = normRow (fun e => x0 (ix3 0 r e)) (fun e => x1 (ix3 0 0 e)) (fun e => x1 (ix3 0 1 e)) d := by
  unfold normed normRow k0_pay4 k0_pay2 modAt
  pointwise

/-- What the body leaves, at a row and a feature: the half-step of that row. -/
theorem out_apply (r : Fin 1024) (d : Fin 1024) :
    (k0_pay1 (k0_pay27 (F := Ideal) (k0_pay2 x0) (k0_pay3 (modAt x1 2 inb_S1x9x1024_S1x1x1024_0_2_0)) (downSum (F := Ideal) (normed x0 x1) x2 x3 x4)) (ix3 0 r d) : EReal)
      = ffnRow (fun e => x0 (ix3 0 r e)) (fun e => x1 (ix3 0 0 e)) (fun e => x1 (ix3 0 1 e)) (fun e => x1 (ix3 0 2 e))
          (fun k f => x2 (ix3 0 k f)) (fun k f => x3 (ix3 0 k f)) (fun f e => x4 (ix3 0 f e)) d := by
  unfold k0_pay1 k0_pay27 k0_pay2 k0_pay3 modAt ffnRow
  pointwise [downSum_apply, normed_apply]

end Cert.Kernel3Ideal.Out

end
-- ==== Proof.Ffn3Ref.lean ====
module

public import proofs.«01_k».proof.Proof.Gen.Reference3Ideal.Read
public import proofs.«01_k».proof.Proof.FfnEq

@[expose] public section

noncomputable section

open Idealize.ShloMosaic Idealize.ShloMosaic.TcCoe Idealize.SL.Sem

namespace Cert.Reference3Ideal.Rows

open Cert.Ffn Cert.Reference3Ideal Cert.Reference3Ideal.Gen Cert.Reference3Ideal.Read

variable (x0 : FVec Ideal S16x2048x1024 .f32) (x1 : FVec Ideal S24x9x1024 .f32)
  (x2 x3 : FVec Ideal S2x1024x2816 .bf16) (x4 : FVec Ideal S2x2816x1024 .bf16)

/-- The normalised rows, at an index. -/
theorem v44_apply (b : Fin 16) (s : Fin 2048) (d : Fin 1024) :
    val_main_v44 (F := Ideal) x0 x1 (ix3 b s d) = normRow (fun e => x0 (ix3 b s e))
      (fun e => x1 (ix3 ⟨b, by omega⟩ 0 e)) (fun e => x1 (ix3 ⟨b, by omega⟩ 1 e)) d := by
  unfold val_main_v44 val_main_v43 val_main_v42 val_main_v41 val_main_v40 val_main_v39 val_main_v38 val_main_v37 val_main_v36 val_main_v35 val_main_v34 val_main_v33 val_main_v32 val_main_v31 val_main_v30 val_main_v29 val_main_cst_0 val_main_cst_1 val_main_cst_2 val_main_cst_3 val_main_v5 val_main_v4 val_main_v3 val_main_v2 val_main_v1 val_main_v0 normRow
  pointwise

/-- The gate's product, at an index. -/
theorem v54_apply (b : Fin 16) (s : Fin 2048) (f : Fin 2816) :
    val_main_v54 (F := Ideal) x0 x1 x2 (ix3 b s f) = ∑ k, val_main_v44 (F := Ideal) x0 x1 (ix3 b s k) * x2 (ix3 0 k f) := by
  unfold val_main_v54 val_main_v47 val_main_v46 val_main_v45
  pointwise [dot_S16x2048x1024_S1024x2816_S16x2048x2816_2_0_01_1_n_n]

/-- The result, at an index: the half-step of that row. -/
theorem v61_apply (b : Fin 16) (s : Fin 2048) (d : Fin 1024) :
    val_main_v61 (F := Ideal) x0 x1 x2 x3 x4 (ix3 b s d)
      = ffnRow (fun e => x0 (ix3 b s e)) (fun e => x1 (ix3 ⟨b, by omega⟩ 0 e)) (fun e => x1 (ix3 ⟨b, by omega⟩ 1 e))
          (fun e => x1 (ix3 ⟨b, by omega⟩ 2 e)) (fun k f => x2 (ix3 0 k f)) (fun k f => x3 (ix3 0 k f)) (fun f e => x4 (ix3 0 f e)) d := by
  unfold val_main_v61 val_main_v60 val_main_v59 val_main_v58 val_main_v57 val_main_v56 val_main_v55 val_main_v53 val_main_v52 val_main_v51 val_main_v50 val_main_v49 val_main_v48 val_main_call0_v5 val_main_call0_v4 val_main_call0_cst_0 val_main_call0_v3 val_main_call0_v2 val_main_call0_cst val_main_call0_v1 val_main_call0_v0 val_main_v28 val_main_v27 val_main_cst val_main_v8 val_main_v7 val_main_v6
  pointwise [dot_S16x2048x1024_S1024x2816_S16x2048x2816_2_0_01_1_n_n, dot_S16x2048x2816_S2816x1024_S16x2048x1024_2_0_01_1_n_n, v54_apply, v44_apply, ffnRow, actRow]

end Cert.Reference3Ideal.Rows

end
-- ==== Proof.Ffn3Array.lean ====
module

public import proofs.«01_k».proof.Proof.Ffn3Out
public import proofs.«01_k».proof.Proof.Ffn3Ref
public import proofs.«01_k».proof.Proof.Gen.Reference3Ideal.Run
public import Idealize.ShloMosaic.Lib.Pipeline.ValueKit.Point

@[expose] public section

set_option maxHeartbeats 1600000

noncomputable section

open Idealize.ShloMosaic Idealize.SL.Sem Cert.Ffn Cert.Kernel3Ideal Cert.Kernel3Ideal.Gen
open Cert.Kernel2Ideal.Out (modAt downSum)

/-! The blocks of the half-step without an output projection, put together: the result array is the reference's. -/

namespace Cert.Kernel3Ideal.Out

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![(grid0.coords t 0).val, (grid0.coords t 1).val, 0] :=
  (by decide +kernel : ∀ t : Fin grid0.N, _)

/-- Where the blocks are the arrays at batch `b` and rows `ρ`, the body's rows are the reference's. -/
theorem point (x0 : FVec Ideal S1x1024x1024 .f32) (x1 : FVec Ideal S1x9x1024 .f32) (x2 x3 : FVec Ideal S1x1024x2816 .bf16) (x4 : FVec Ideal S1x2816x1024 .bf16)
    (X0 : FVec Ideal S16x2048x1024 .f32) (X1 : FVec Ideal S24x9x1024 .f32) (X2 X3 : FVec Ideal S2x1024x2816 .bf16) (X4 : FVec Ideal S2x2816x1024 .bf16)
    (b : Fin 16) (ρ : Fin 1024 → Fin 2048)
    (h0 : ∀ r d, x0 (ix3 0 r d) = X0 (ix3 b (ρ r) d)) (h1 : ∀ j d, x1 (ix3 0 j d) = X1 (ix3 ⟨b, by omega⟩ j d))
    (h2 : ∀ k f, x2 (ix3 0 k f) = X2 (ix3 0 k f)) (h3 : ∀ k f, x3 (ix3 0 k f) = X3 (ix3 0 k f)) (h4 : ∀ f d, x4 (ix3 0 f d) = X4 (ix3 0 f d)) (r d : Fin 1024) :
    (k0_pay1 (k0_pay27 (F := Ideal) (k0_pay2 x0) (k0_pay3 (modAt x1 2 inb_S1x9x1024_S1x1x1024_0_2_0)) (downSum (F := Ideal) (normed x0 x1) x2 x3 x4)) (ix3 0 r d) : EReal)
      = Cert.Reference3Ideal.Read.val_main_v61 (F := Ideal) X0 X1 X2 X3 X4 (ix3 b (ρ r) d) := by
  rw [out_apply, Cert.Reference3Ideal.Rows.v61_apply]
  simp only [h0, h1, h2, h3, h4]

variable (m : (ℓ : Loc nD τ sig) → Buf (Elt Ideal) ℓ) (c : Dev nD)

/-- The kernel's result array is the reference's result over the same arguments. -/
theorem final : (dats m 0 c).arrAt 5 cfg0.N = Cert.Reference3Ideal.Read.val_main_v61 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  have e := congrFun (Value.flushed5_A m c t) y
  rw [out_A] at e
  refine e.trans ?_
  rw [Pipeline.Window.cut_apply]
  have hy1 : ((y 1 : ℕ)) < 1024 := (y 1).isLt
  have hy2 : ((y 2 : ℕ)) < 1024 := (y 2).isLt
  have ht0 : (grid0.coords t 0).val < 16 := (grid0.coords t 0).isLt
  have ht1 : (grid0.coords t 1).val < 2 := (grid0.coords t 1).isLt
  have hb : (cfg0.win 5).xinj (grid0.coords t) y = ix3 (0 : Fin 1) (⟨y 1, hy1⟩ : Fin 1024) (⟨y 2, hy2⟩ : Fin 1024) := by
    funext a
    match a with
    | ⟨0, _⟩ => exact Subsingleton.elim (α := Fin 1) _ _
    | ⟨1, _⟩ => rfl
    | ⟨2, _⟩ => rfl
  have ha : ((cfg0.win 5).blk t).view.emb y = ix3 (⟨(grid0.coords t 0).val, ht0⟩ : Fin 16)
      (⟨(grid0.coords t 1).val * 1024 + (⟨y 1, hy1⟩ : Fin 1024), by omega⟩ : Fin 2048) (⟨y 2, hy2⟩ : Fin 1024) := by
    funext a
    apply Fin.ext
    match a with
    | ⟨0, _⟩ => blk_simp [idx5 t]
    | ⟨1, _⟩ => blk_simp [idx5 t]; rfl
    | ⟨2, _⟩ => blk_simp [idx5 t]; rfl
  rw [hb, ha]
  refine point _ _ _ _ _ _ _ _ _ _ ⟨(grid0.coords t 0).val, ht0⟩ (fun r => ⟨(grid0.coords t 1).val * 1024 + r, by omega⟩) ?_ ?_ ?_ ?_ ?_ _ _
  all_goals intro r d
  · blk_ext! [iblk, V, idx0 t]
  · blk_ext! [iblk, V, idx1 t]
  · blk_ext! [iblk, V, idx2 t]
  · blk_ext! [iblk, V, idx3 t]
  · blk_ext! [iblk, V, idx4 t]

end Cert.Kernel3Ideal.Out

end
-- ==== Proof.FfnClaims.lean ====
module

public import proofs.«01_k».proof.Defs
public import proofs.«01_k».proof.Proof.FfnArray
public import proofs.«01_k».proof.Proof.Ffn3Array
public import proofs.«01_k».proof.Proof.Gen.Kernel2.Frame
public import proofs.«01_k».proof.Proof.Gen.Kernel3.Frame
public import proofs.«01_k».proof.Proof.Gen.Kernel2Ideal.Frame
public import proofs.«01_k».proof.Proof.Gen.Kernel3Ideal.Frame
public import Idealize.ShloMosaic.Adequacy
public import Idealize.ShloMosaic.Init

@[expose] public section

noncomputable section

open Idealize.ShloMosaic Idealize.SL.Sem

/-! The claims of the two feed-forward calls over the latent tokens: the references' frames and the value claims. -/

namespace Cert.Ffn

theorem reference2_frame : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

theorem reference3_frame : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- The second half-step with the attention's output projection: kernel and reference end with the same array. -/
theorem algebraic2 : Cert.algebraic_Kernel2Ideal_Reference2Ideal := by
  intro m ρ m' ρ' _ hagree
  refine ⟨fun c => (Cert.Kernel2Ideal.Gen.dats m 0 c).arrAt 8 Cert.Kernel2Ideal.cfg0.N, Cert.Kernel2Ideal.Value.run_blocks m ρ, ?_⟩
  refine (θ_run _ _ _).mono (fun _ h c => ⟨(h c).1.trans ?_, (h c).2⟩) (Cert.Reference2Ideal.Value.run (F := Ideal) m' ρ')
  obtain ⟨h0, h1, h2, h3, h4, h5, h6, h7⟩ := hagree c
  refine (Cert.Reference2Ideal.Read.val_main_v70_eq m' c).trans (Eq.trans ?_ (Cert.Kernel2Ideal.Out.final m c).symm)
  rw [h0, h1, h2, h3, h4, h5, h6, h7]

/-- The first half-step: kernel and reference end with the same array. -/
theorem algebraic3 : Cert.algebraic_Kernel3Ideal_Reference3Ideal := by
  intro m ρ m' ρ' _ hagree
  refine ⟨fun c => (Cert.Kernel3Ideal.Gen.dats m 0 c).arrAt 5 Cert.Kernel3Ideal.cfg0.N, Cert.Kernel3Ideal.Value.run_blocks m ρ, ?_⟩
  refine (θ_run _ _ _).mono (fun _ h c => ⟨(h c).1.trans ?_, (h c).2⟩) (Cert.Reference3Ideal.Value.run (F := Ideal) m' ρ')
  obtain ⟨h0, h1, h2, h3, h4⟩ := hagree c
  refine (Cert.Reference3Ideal.Read.val_main_v61_eq m' c).trans (Eq.trans ?_ (Cert.Kernel3Ideal.Out.final m c).symm)
  rw [h0, h1, h2, h3, h4]

end Cert.Ffn

end
-- ==== Proof.Ffn4Out.lean ====
module

public import proofs.«01_k».proof.Defs
public import proofs.«01_k».proof.Proof.Gen.Kernel4Ideal.Value
public import proofs.«01_k».proof.Proof.FfnRows

@[expose] public section

noncomputable section

open Idealize.ShloMosaic Idealize.ShloMosaic.TcCoe Idealize.SL.Sem

/-! The first half-step over the context tokens: what its body leaves, and its rows. -/

namespace Cert.Kernel4Ideal.Out

open Cert.Kernel4Ideal Cert.Kernel4Ideal.Gen Cert.Ffn
open Cert.Kernel2Ideal.Out (hz2 hz3 readCov_last actBlock downBlock colsAt rowsAt modAt downSum downSum_apply)

section
variable {F : FTy → Type} [FloatOps F]

/-- The normalised and modulated rows, the input of the three weights. -/
def normed (x0 : Vec F S1x512x1024 .f32) (x1 : Vec F S1x9x1024 .f32) : FVec F S512x1024 .bf16 :=
  k0_pay4 x0 (modAt x1 0 inb_S1x9x1024_S1x1x1024_0_0_0) (modAt x1 1 inb_S1x9x1024_S1x1x1024_0_1_0)

set_option maxHeartbeats 4000000 in
/-- What the body leaves in the output's buffer, as a term of the input blocks. -/
theorem out_A (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x512x1024 .f32) (harg7 : arg7.IsWhole) (arg8 : Memref sig .tc .vmem S512x1024 .f32) (harg8 : arg8.IsWhole)
    (x0 : Vec F S1x512x1024 .f32) (x1 : Vec F S1x9x1024 .f32) (x2 : Vec F S1x1024x2816 .bf16) (x3 : Vec F S1x1024x2816 .bf16) (x4 : Vec F S1x2816x1024 .bf16) :
    out0_A_5 c i arg2 harg2 arg3 harg3 arg4 harg4 arg5 harg5 arg6 harg6 arg7 harg7 arg8 harg8 x0 x1 x2 x3 x4 =
    k0_pay1 (k0_pay27 (k0_pay2 x0) (k0_pay3 (modAt x1 2 inb_S1x9x1024_S1x1x1024_0_2_0)) (downSum (normed x0 x1) x2 x3 x4)) := by
  unfold out0_A_5
  rw [View.read_writes_eq_canon _ _ _ (fun y => cover0_A_5 _ _ _ _ _ _ _ _ _ _ _ _ _ _ _ _ _ _ _ _ _ y)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x512x1024) hz3, View.canon_cons_unit_zero (S := S512x1024) hz2, readCov_last (S := S512x1024) _ hz2]
  unfold k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26
  simp only [shapeCast_self]
  rfl

end

variable (x0 : Vec Ideal S1x512x1024 .f32) (x1 : Vec Ideal S1x9x1024 .f32) (x2 x3 : Vec Ideal S1x1024x2816 .bf16) (x4 : Vec Ideal S1x2816x1024 .bf16)

/-- The normalised rows, at a row and a feature. -/
theorem normed_apply (r : Fin 512) (d : Fin 1024) :
    normed x0 x1 (ix2 r d) = normRow (fun e => x0 (ix3 0 r e)) (fun e => x1 (ix3 0 0 e)) (fun e => x1 (ix3 0 1 e)) d := by
  unfold normed normRow k0_pay4 k0_pay2 modAt
  pointwise

/-- What the body leaves, at a row and a feature: the half-step of that row. -/
theorem out_apply (r : Fin 512) (d : Fin 1024) :
    (k0_pay1 (k0_pay27 (F := Ideal) (k0_pay2 x0) (k0_pay3 (modAt x1 2 inb_S1x9x1024_S1x1x1024_0_2_0)) (downSum (F := Ideal) (normed x0 x1) x2 x3 x4)) (ix3 0 r d) : EReal)
      = ffnRow (fun e => x0 (ix3 0 r e)) (fun e => x1 (ix3 0 0 e)) (fun e => x1 (ix3 0 1 e)) (fun e => x1 (ix3 0 2 e))
          (fun k f => x2 (ix3 0 k f)) (fun k f => x3 (ix3 0 k f)) (fun f e => x4 (ix3 0 f e)) d := by
  unfold k0_pay1 k0_pay27 k0_pay2 k0_pay3 modAt ffnRow
  pointwise [downSum_apply, normed_apply]

end Cert.Kernel4Ideal.Out

end
-- ==== Proof.Ffn4Ref.lean ====
module

public import proofs.«01_k».proof.Proof.Gen.Reference4Ideal.Read
public import proofs.«01_k».proof.Proof.FfnEq

@[expose] public section

noncomputable section

open Idealize.ShloMosaic Idealize.ShloMosaic.TcCoe Idealize.SL.Sem

namespace Cert.Reference4Ideal.Rows

open Cert.Ffn Cert.Reference4Ideal Cert.Reference4Ideal.Gen Cert.Reference4Ideal.Read

variable (x0 : FVec Ideal S1x4096x1024 .f32) (x1 : FVec Ideal S24x9x1024 .f32)
  (x2 x3 : FVec Ideal S2x1024x2816 .bf16) (x4 : FVec Ideal S2x2816x1024 .bf16)

/-- The normalised rows, at an index; the context's modulation is the row after the batches'. -/
theorem v37_apply (s : Fin 4096) (d : Fin 1024) :
    val_main_v37 (F := Ideal) x0 x1 (ix3 0 s d) = normRow (fun e => x0 (ix3 0 s e))
      (fun e => x1 (ix3 16 0 e)) (fun e => x1 (ix3 16 1 e)) d := by
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_cst_0 val_main_cst_1 val_main_cst_2 val_main_cst_3 val_main_v3 val_main_v2 val_main_v1 val_main_v0 normRow
  pointwise

/-- The gate's product, at an index. -/
theorem v47_apply (s : Fin 4096) (f : Fin 2816) :
    val_main_v47 (F := Ideal) x0 x1 x2 (ix3 0 s f) = ∑ k, val_main_v37 (F := Ideal) x0 x1 (ix3 0 s k) * x2 (ix3 0 k f) := by
  unfold val_main_v47 val_main_v40 val_main_v39 val_main_v38
  pointwise [dot_S1x4096x1024_S1024x2816_S1x4096x2816_2_0_01_1_n_n]

/-- The result, at an index: the half-step of that row. -/
theorem v55_apply (s : Fin 4096) (d : Fin 1024) :
    val_main_v55 (F := Ideal) x0 x1 x2 x3 x4 (ix3 0 s d)
      = ffnRow (fun e => x0 (ix3 0 s e)) (fun e => x1 (ix3 16 0 e)) (fun e => x1 (ix3 16 1 e))
          (fun e => x1 (ix3 16 2 e)) (fun k f => x2 (ix3 0 k f)) (fun k f => x3 (ix3 0 k f)) (fun f e => x4 (ix3 0 f e)) d := by
  unfold val_main_v55 val_main_v54 val_main_v53 val_main_v52 val_main_v51 val_main_v50 val_main_v49 val_main_v48 val_main_v46 val_main_v45 val_main_v44 val_main_v43 val_main_v42 val_main_v41 val_main_call0_v5 val_main_call0_v4 val_main_call0_cst_0 val_main_call0_v3 val_main_call0_v2 val_main_call0_cst val_main_call0_v1 val_main_call0_v0 val_main_v19 val_main_v18 val_main_cst val_main_v5 val_main_v4
  pointwise [dot_S1x4096x1024_S1024x2816_S1x4096x2816_2_0_01_1_n_n, dot_S1x4096x2816_S2816x1024_S1x4096x1024_2_0_01_1_n_n, v47_apply, v37_apply, ffnRow, actRow]

end Cert.Reference4Ideal.Rows

end
-- ==== Proof.Ffn4Array.lean ====
module

public import proofs.«01_k».proof.Proof.Ffn4Out
public import proofs.«01_k».proof.Proof.Ffn4Ref
public import proofs.«01_k».proof.Proof.Gen.Reference4Ideal.Run
public import Idealize.ShloMosaic.Lib.Pipeline.ValueKit.Point

@[expose] public section

set_option maxHeartbeats 1600000

noncomputable section

open Idealize.ShloMosaic Idealize.SL.Sem Cert.Ffn Cert.Kernel4Ideal Cert.Kernel4Ideal.Gen
open Cert.Kernel2Ideal.Out (modAt downSum)

/-! The blocks of the first half-step over the context tokens, put together: the result array is the reference's. -/

namespace Cert.Kernel4Ideal.Out

theorem idx0 : ∀ t : Fin cfg0.N, win0_0.index t = ![0, (grid0.coords t 1).val, 0] :=
  (by decide +kernel : ∀ t : Fin grid0.N, _)
theorem idx1 : ∀ t : Fin cfg0.N, win0_1.index t = ![16, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, (grid0.coords t 1).val, 0] :=
  (by decide +kernel : ∀ t : Fin grid0.N, _)

/-- Where the blocks are the arrays at rows `ρ`, the body's rows are the reference's. -/
theorem point (x0 : FVec Ideal S1x512x1024 .f32) (x1 : FVec Ideal S1x9x1024 .f32) (x2 x3 : FVec Ideal S1x1024x2816 .bf16) (x4 : FVec Ideal S1x2816x1024 .bf16)
    (X0 : FVec Ideal S1x4096x1024 .f32) (X1 : FVec Ideal S24x9x1024 .f32) (X2 X3 : FVec Ideal S2x1024x2816 .bf16) (X4 : FVec Ideal S2x2816x1024 .bf16)
    (ρ : Fin 512 → Fin 4096)
    (h0 : ∀ r d, x0 (ix3 0 r d) = X0 (ix3 0 (ρ r) d)) (h1 : ∀ j d, x1 (ix3 0 j d) = X1 (ix3 16 j d))
    (h2 : ∀ k f, x2 (ix3 0 k f) = X2 (ix3 0 k f)) (h3 : ∀ k f, x3 (ix3 0 k f) = X3 (ix3 0 k f)) (h4 : ∀ f d, x4 (ix3 0 f d) = X4 (ix3 0 f d)) (r : Fin 512) (d : Fin 1024) :
    (k0_pay1 (k0_pay27 (F := Ideal) (k0_pay2 x0) (k0_pay3 (modAt x1 2 inb_S1x9x1024_S1x1x1024_0_2_0)) (downSum (F := Ideal) (normed x0 x1) x2 x3 x4)) (ix3 0 r d) : EReal)
      = Cert.Reference4Ideal.Read.val_main_v55 (F := Ideal) X0 X1 X2 X3 X4 (ix3 0 (ρ r) d) := by
  rw [out_apply, Cert.Reference4Ideal.Rows.v55_apply]
  simp only [h0, h1, h2, h3, h4]

variable (m : (ℓ : Loc nD τ sig) → Buf (Elt Ideal) ℓ) (c : Dev nD)

/-- The kernel's result array is the reference's result over the same arguments. -/
theorem final : (dats m 0 c).arrAt 5 cfg0.N = Cert.Reference4Ideal.Read.val_main_v55 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  have e := congrFun (Value.flushed5_A m c t) y
  rw [out_A] at e
  refine e.trans ?_
  rw [Pipeline.Window.cut_apply]
  have hy1 : ((y 1 : ℕ)) < 512 := (y 1).isLt
  have hy2 : ((y 2 : ℕ)) < 1024 := (y 2).isLt
  have ht1 : (grid0.coords t 1).val < 8 := (grid0.coords t 1).isLt
  have hb : (cfg0.win 5).xinj (grid0.coords t) y = ix3 (0 : Fin 1) (⟨y 1, hy1⟩ : Fin 512) (⟨y 2, hy2⟩ : Fin 1024) := by
    funext a
    match a with
    | ⟨0, _⟩ => exact Subsingleton.elim (α := Fin 1) _ _
    | ⟨1, _⟩ => rfl
    | ⟨2, _⟩ => rfl
  have ha : ((cfg0.win 5).blk t).view.emb y = ix3 (0 : Fin 1)
      (⟨(grid0.coords t 1).val * 512 + (⟨y 1, hy1⟩ : Fin 512), by omega⟩ : Fin 4096) (⟨y 2, hy2⟩ : Fin 1024) := by
    funext a
    apply Fin.ext
    match a with
    | ⟨0, _⟩ => blk_simp [idx5 t]; rfl
    | ⟨1, _⟩ => blk_simp [idx5 t]; rfl
    | ⟨2, _⟩ => blk_simp [idx5 t]; rfl
  rw [hb, ha]
  refine point _ _ _ _ _ _ _ _ _ _ (fun r => ⟨(grid0.coords t 1).val * 512 + r, by omega⟩) ?_ ?_ ?_ ?_ ?_ _ _
  all_goals intro r d
  · blk_ext! [iblk, V, idx0 t]
  · blk_ext! [iblk, V, idx1 t]
  · blk_ext! [iblk, V, idx2 t]
  · blk_ext! [iblk, V, idx3 t]
  · blk_ext! [iblk, V, idx4 t]

end Cert.Kernel4Ideal.Out

end
-- ==== Proof.Ffn5Out.lean ====
module

public import proofs.«01_k».proof.Defs
public import proofs.«01_k».proof.Proof.Gen.Kernel5Ideal.Value
public import proofs.«01_k».proof.Proof.FfnRows

@[expose] public section

noncomputable section

open Idealize.ShloMosaic Idealize.ShloMosaic.TcCoe Idealize.SL.Sem

/-! The second half-step over the context tokens, with the output projection: what its body leaves, and its rows. -/

namespace Cert.Kernel5Ideal.Out

open Cert.Kernel5Ideal Cert.Kernel5Ideal.Gen Cert.Ffn
open Cert.Kernel2Ideal.Out (hz2 hz3 readCov_last actBlock downBlock colsAt rowsAt modAt downSum downSum_apply)

section
variable {F : FTy → Type} [FloatOps F]

/-- The residual stream after the attention's output projection. -/
def resid (x0 : Vec F S1x512x1024 .f32) (x1 x2 : Vec F S1x512x512 .bf16) (x3 : Vec F S1x9x1024 .f32) (x4 : Vec F S1x1024x1024 .bf16) : FVec F S512x1024 .f32 :=
  k0_pay3 x0 x1 (View.ld x4 (Rect.unit ![0, 0, 0] ![1, 512, 1024] inb_S1x1024x1024_S1x512x1024_0_0_0)) x2
    (View.ld x4 (Rect.unit ![0, 512, 0] ![1, 512, 1024] inb_S1x1024x1024_S1x512x1024_0_512_0)) (modAt x3 5 inb_S1x9x1024_S1x1x1024_0_5_0)

/-- Its normalised and modulated rows, the input of the three weights. -/
def normed (x0 : Vec F S1x512x1024 .f32) (x1 x2 : Vec F S1x512x512 .bf16) (x3 : Vec F S1x9x1024 .f32) (x4 : Vec F S1x1024x1024 .bf16) : FVec F S512x1024 .bf16 :=
  k0_pay8 (resid x0 x1 x2 x3 x4) (k0_pay4 (modAt x3 6 inb_S1x9x1024_S1x1x1024_0_6_0)) (k0_pay5 (modAt x3 7 inb_S1x9x1024_S1x1x1024_0_7_0))
    (k0_pay7 x0 x1 (View.ld x4 (Rect.unit ![0, 0, 0] ![1, 512, 1024] inb_S1x1024x1024_S1x512x1024_0_0_0)) x2
      (View.ld x4 (Rect.unit ![0, 512, 0] ![1, 512, 1024] inb_S1x1024x1024_S1x512x1024_0_512_0)) (modAt x3 5 inb_S1x9x1024_S1x1x1024_0_5_0))
    (Scalar.ofBits .f32 0x44800000#32)

set_option maxHeartbeats 4000000 in
/-- What the body leaves in the output's buffer, as a term of the input blocks. -/
theorem out_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x9x1024 .f32) (harg5 : arg5.IsWhole) (arg6 : Memref sig .tc .vmem S1x1024x1024 .bf16) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x512x1024 .f32) (harg10 : arg10.IsWhole) (arg11 : Memref sig .tc .vmem S512x1024 .f32) (harg11 : arg11.IsWhole)
    (x0 : Vec F S1x512x1024 .f32) (x1 : Vec F S1x512x512 .bf16) (x2 : Vec F S1x512x512 .bf16) (x3 : Vec F S1x9x1024 .f32) (x4 : Vec F S1x1024x1024 .bf16) (x5 : Vec F S1x1024x2816 .bf16) (x6 : Vec F S1x1024x2816 .bf16) (x7 : Vec F S1x2816x1024 .bf16) :
    out0_A_8 c i arg2 harg2 arg3 harg3 arg4 harg4 arg5 harg5 arg6 harg6 arg7 harg7 arg8 harg8 arg9 harg9 arg10 harg10 arg11 harg11 x0 x1 x2 x3 x4 x5 x6 x7 =
    k0_pay2 (resid x0 x1 x2 x3 x4) (k0_pay6 (modAt x3 8 inb_S1x9x1024_S1x1x1024_0_8_0)) (downSum (normed x0 x1 x2 x3 x4) x5 x6 x7) := by
  unfold out0_A_8
  rw [View.read_writes_eq_canon _ _ _ (fun y => cover0_A_8 _ _ _ _ _ _ _ _ _ _ _ _ _ _ _ _ _ _ _ _ _ _ _ _ _ _ _ _ _ _ y)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x512x1024) hz3,View.ld_unit_zero (S := S1x512x512) hz3, View.canon_cons_unit_zero (S := S512x1024) hz2, readCov_last (S := S512x1024) _ hz2]
  unfold k0_pay1 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31
  simp only [shapeCast_self]
  rfl

end

variable (x0 : Vec Ideal S1x512x1024 .f32) (x1 x2 : Vec Ideal S1x512x512 .bf16) (x3 : Vec Ideal S1x9x1024 .f32)
  (x4 : Vec Ideal S1x1024x1024 .bf16) (x5 x6 : Vec Ideal S1x1024x2816 .bf16) (x7 : Vec Ideal S1x2816x1024 .bf16)

/-- The residual stream, at a row and a feature. -/
theorem resid_apply (r : Fin 512) (d : Fin 1024) :
    resid x0 x1 x2 x3 x4 (ix2 r d) = x0 (ix3 0 r d) + x3 (ix3 0 5 d)
      * (∑ k : Fin 512, x1 (ix3 0 r k) * x4 (ix3 0 ⟨k, by omega⟩ d) + ∑ k : Fin 512, x2 (ix3 0 r k) * x4 (ix3 0 ⟨512 + k, by omega⟩ d)) := by
  unfold resid modAt k0_pay3
  pointwise [dot_S512x512_S512x1024_S512x1024_1_0_0_1_n_n]

/-- The normalised rows, at a row and a feature. -/
theorem normed_apply (r : Fin 512) (d : Fin 1024) :
    normed x0 x1 x2 x3 x4 (ix2 r d) = normRow (fun e => resid x0 x1 x2 x3 x4 (ix2 r e)) (fun e => x3 (ix3 0 6 e)) (fun e => x3 (ix3 0 7 e)) d := by
  unfold normed normRow k0_pay8 k0_pay7 k0_pay5 k0_pay4 modAt
  pointwise
  rfl

/-- What the body leaves, at a row and a feature: the half-step of that row. -/
theorem out_apply (r : Fin 512) (d : Fin 1024) :
    k0_pay2 (resid x0 x1 x2 x3 x4) (k0_pay6 (modAt x3 8 inb_S1x9x1024_S1x1x1024_0_8_0)) (downSum (normed x0 x1 x2 x3 x4) x5 x6 x7) (ix3 0 r d)
      = ffnRow (fun e => resid x0 x1 x2 x3 x4 (ix2 r e)) (fun e => x3 (ix3 0 6 e)) (fun e => x3 (ix3 0 7 e)) (fun e => x3 (ix3 0 8 e))
          (fun k f => x5 (ix3 0 k f)) (fun k f => x6 (ix3 0 k f)) (fun f e => x7 (ix3 0 f e)) d := by
  unfold k0_pay2 k0_pay6 modAt ffnRow
  pointwise [downSum_apply, normed_apply]

end Cert.Kernel5Ideal.Out

end
-- ==== Proof.Ffn5Ref.lean ====
module

public import proofs.«01_k».proof.Proof.Gen.Reference5Ideal.Read
public import proofs.«01_k».proof.Proof.FfnEq

@[expose] public section

noncomputable section

open Idealize.ShloMosaic Idealize.ShloMosaic.TcCoe Idealize.SL.Sem

namespace Cert.Reference5Ideal.Rows

open Cert.Ffn Cert.Reference5Ideal Cert.Reference5Ideal.Gen Cert.Reference5Ideal.Read

variable (x0 : FVec Ideal S1x4096x1024 .f32) (x1 x2 : FVec Ideal S1x4096x512 .bf16) (x3 : FVec Ideal S24x9x1024 .f32)
  (x4 : FVec Ideal S1x1024x1024 .bf16) (x5 x6 : FVec Ideal S2x1024x2816 .bf16) (x7 : FVec Ideal S2x2816x1024 .bf16)

/-- The residual stream, at an index; the context's modulation is the row after the batches'. -/
theorem v27_apply (s : Fin 4096) (d : Fin 1024) :
    val_main_v27 (F := Ideal) x0 x1 x2 x3 x4 (ix3 0 s d) = x0 (ix3 0 s d) + x3 (ix3 16 5 d)
      * (∑ k : Fin 512, x1 (ix3 0 s k) * x4 (ix3 0 ⟨k, by omega⟩ d) + ∑ k : Fin 512, x2 (ix3 0 s k) * x4 (ix3 0 ⟨512 + k, by omega⟩ d)) := by
  unfold val_main_v27 val_main_v26 val_main_v25 val_main_v24 val_main_v23 val_main_v22 val_main_v21 val_main_v20 val_main_v19 val_main_v18 val_main_v11 val_main_v10
  pointwise [dot_S1x4096x1024_S1024x1024_S1x4096x1024_2_0_01_1_n_n]

/-- The normalised rows, at an index. -/
theorem v47_apply (s : Fin 4096) (d : Fin 1024) :
    val_main_v47 (F := Ideal) x0 x1 x2 x3 x4 (ix3 0 s d) = normRow (fun e => val_main_v27 (F := Ideal) x0 x1 x2 x3 x4 (ix3 0 s e))
      (fun e => x3 (ix3 16 6 e)) (fun e => x3 (ix3 16 7 e)) d := by
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_cst_0 val_main_cst_1 val_main_cst_2 val_main_cst_3 val_main_v15 val_main_v14 val_main_v13 val_main_v12 normRow
  pointwise

/-- The gate's product, at an index. -/
theorem v57_apply (s : Fin 4096) (f : Fin 2816) :
    val_main_v57 (F := Ideal) x0 x1 x2 x3 x4 x5 (ix3 0 s f) = ∑ k, val_main_v47 (F := Ideal) x0 x1 x2 x3 x4 (ix3 0 s k) * x5 (ix3 0 k f) := by
  unfold val_main_v57 val_main_v50 val_main_v49 val_main_v48
  pointwise [dot_S1x4096x1024_S1024x2816_S1x4096x2816_2_0_01_1_n_n]

/-- The result, at an index: the half-step of that row. -/
theorem v65_apply (s : Fin 4096) (d : Fin 1024) :
    val_main_v65 (F := Ideal) x0 x1 x2 x3 x4 x5 x6 x7 (ix3 0 s d)
      = ffnRow (fun e => val_main_v27 (F := Ideal) x0 x1 x2 x3 x4 (ix3 0 s e)) (fun e => x3 (ix3 16 6 e)) (fun e => x3 (ix3 16 7 e))
          (fun e => x3 (ix3 16 8 e)) (fun k f => x5 (ix3 0 k f)) (fun k f => x6 (ix3 0 k f)) (fun f e => x7 (ix3 0 f e)) d := by
  unfold val_main_v65 val_main_v64 val_main_v63 val_main_v62 val_main_v61 val_main_v60 val_main_v59 val_main_v58 val_main_v56 val_main_v55 val_main_v54 val_main_v53 val_main_v52 val_main_v51 val_main_call0_v5 val_main_call0_v4 val_main_call0_cst_0 val_main_call0_v3 val_main_call0_v2 val_main_call0_cst val_main_call0_v1 val_main_call0_v0 val_main_v29 val_main_v28 val_main_cst val_main_v17 val_main_v16
  pointwise [dot_S1x4096x1024_S1024x2816_S1x4096x2816_2_0_01_1_n_n, dot_S1x4096x2816_S2816x1024_S1x4096x1024_2_0_01_1_n_n, v57_apply, v47_apply, ffnRow, actRow]

end Cert.Reference5Ideal.Rows

end
-- ==== Proof.Ffn5Array.lean ====
module

public import proofs.«01_k».proof.Proof.Ffn5Out
public import proofs.«01_k».proof.Proof.Ffn5Ref
public import proofs.«01_k».proof.Proof.Gen.Kernel5Ideal.Value
public import proofs.«01_k».proof.Proof.Gen.Reference5Ideal.Run
public import Idealize.ShloMosaic.Lib.Pipeline.ValueKit.Point

@[expose] public section

set_option maxHeartbeats 1600000

noncomputable section

open Idealize.ShloMosaic Idealize.SL.Sem Cert.Ffn Cert.Kernel5Ideal Cert.Kernel5Ideal.Gen
open Cert.Kernel2Ideal.Out (modAt downSum)

/-! The blocks of the second half-step over the context tokens, put together: the result array is the reference's. -/

namespace Cert.Kernel5Ideal.Out

theorem idx0 : ∀ t : Fin cfg0.N, win0_0.index t = ![0, (grid0.coords t 1).val, 0] :=
  (by decide +kernel : ∀ t : Fin grid0.N, _)
theorem idx1 : ∀ t : Fin cfg0.N, win0_1.index t = ![0, (grid0.coords t 1).val, 0] :=
  (by decide +kernel : ∀ t : Fin grid0.N, _)
theorem idx2 : ∀ t : Fin cfg0.N, win0_2.index t = ![0, (grid0.coords t 1).val, 0] :=
  (by decide +kernel : ∀ t : Fin grid0.N, _)
theorem idx3 : ∀ t : Fin cfg0.N, win0_3.index t = ![16, 0, 0] :=
  (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, (grid0.coords t 1).val, 0] :=
  (by decide +kernel : ∀ t : Fin grid0.N, _)

/-- Where the blocks are the arrays at rows `ρ`, the body's rows are the reference's. -/
theorem point (x0 : FVec Ideal S1x512x1024 .f32) (x1 x2 : FVec Ideal S1x512x512 .bf16) (x3 : FVec Ideal S1x9x1024 .f32) (x4 : FVec Ideal S1x1024x1024 .bf16)
    (x5 x6 : FVec Ideal S1x1024x2816 .bf16) (x7 : FVec Ideal S1x2816x1024 .bf16)
    (X0 : FVec Ideal S1x4096x1024 .f32) (X1 X2 : FVec Ideal S1x4096x512 .bf16) (X3 : FVec Ideal S24x9x1024 .f32) (X4 : FVec Ideal S1x1024x1024 .bf16)
    (X5 X6 : FVec Ideal S2x1024x2816 .bf16) (X7 : FVec Ideal S2x2816x1024 .bf16) (ρ : Fin 512 → Fin 4096)
    (h0 : ∀ r d, x0 (ix3 0 r d) = X0 (ix3 0 (ρ r) d)) (h1 : ∀ r d, x1 (ix3 0 r d) = X1 (ix3 0 (ρ r) d)) (h2 : ∀ r d, x2 (ix3 0 r d) = X2 (ix3 0 (ρ r) d))
    (h3 : ∀ j d, x3 (ix3 0 j d) = X3 (ix3 16 j d)) (h4 : ∀ k d, x4 (ix3 0 k d) = X4 (ix3 0 k d))
    (h5 : ∀ k f, x5 (ix3 0 k f) = X5 (ix3 0 k f)) (h6 : ∀ k f, x6 (ix3 0 k f) = X6 (ix3 0 k f)) (h7 : ∀ f d, x7 (ix3 0 f d) = X7 (ix3 0 f d)) (r : Fin 512) (d : Fin 1024) :
    (k0_pay2 (F := Ideal) (resid x0 x1 x2 x3 x4) (k0_pay6 (modAt x3 8 inb_S1x9x1024_S1x1x1024_0_8_0)) (downSum (F := Ideal) (normed x0 x1 x2 x3 x4) x5 x6 x7) (ix3 0 r d) : EReal)
      = Cert.Reference5Ideal.Read.val_main_v65 (F := Ideal) X0 X1 X2 X3 X4 X5 X6 X7 (ix3 0 (ρ r) d) := by
  rw [out_apply, Cert.Reference5Ideal.Rows.v65_apply]
  simp only [resid_apply, Cert.Reference5Ideal.Rows.v27_apply, h0, h1, h2, h3, h4, h5, h6, h7]

variable (m : (ℓ : Loc nD τ sig) → Buf (Elt Ideal) ℓ) (c : Dev nD)

/-- The kernel's result array is the reference's result over the same arguments. -/
theorem final : (dats m 0 c).arrAt 8 cfg0.N = Cert.Reference5Ideal.Read.val_main_v65 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  refine (dats m 0 c).arrAt_eq_of_covers 8 _ (by decide +kernel) fun t hf y => ?_
  have e := congrFun (Value.flushed8_A m c t) y
  rw [out_A] at e
  refine e.trans ?_
  rw [Pipeline.Window.cut_apply]
  have hy1 : ((y 1 : ℕ)) < 512 := (y 1).isLt
  have hy2 : ((y 2 : ℕ)) < 1024 := (y 2).isLt
  have ht1 : (grid0.coords t 1).val < 8 := (grid0.coords t 1).isLt
  have hb : (cfg0.win 8).xinj (grid0.coords t) y = ix3 (0 : Fin 1) (⟨y 1, hy1⟩ : Fin 512) (⟨y 2, hy2⟩ : Fin 1024) := by
    funext a
    match a with
    | ⟨0, _⟩ => exact Subsingleton.elim (α := Fin 1) _ _
    | ⟨1, _⟩ => rfl
    | ⟨2, _⟩ => rfl
  have ha : ((cfg0.win 8).blk t).view.emb y = ix3 (0 : Fin 1)
      (⟨(grid0.coords t 1).val * 512 + (⟨y 1, hy1⟩ : Fin 512), by omega⟩ : Fin 4096) (⟨y 2, hy2⟩ : Fin 1024) := by
    funext a
    apply Fin.ext
    match a with
    | ⟨0, _⟩ => blk_simp [idx8 t]; rfl
    | ⟨1, _⟩ => blk_simp [idx8 t]; rfl
    | ⟨2, _⟩ => blk_simp [idx8 t]; rfl
  rw [hb, ha]
  refine point _ _ _ _ _ _ _ _ _ _ _ _ _ _ _ _ (fun r => ⟨(grid0.coords t 1).val * 512 + r, by omega⟩) ?_ ?_ ?_ ?_ ?_ ?_ ?_ ?_ _ _
  all_goals intro r d
  · blk_ext! [iblk, V, idx0 t]
  · blk_ext! [iblk, V, idx1 t]
  · blk_ext! [iblk, V, idx2 t]
  · blk_ext! [iblk, V, idx3 t]
  · blk_ext! [iblk, V, idx4 t]
  · blk_ext! [iblk, V, idx5 t]
  · blk_ext! [iblk, V, idx6 t]
  · blk_ext! [iblk, V, idx7 t]

end Cert.Kernel5Ideal.Out

end
-- ==== Proof.FfnCtxClaims.lean ====
module

public import proofs.«01_k».proof.Defs
public import proofs.«01_k».proof.Proof.Ffn4Array
public import proofs.«01_k».proof.Proof.Ffn5Array
public import proofs.«01_k».proof.Proof.Gen.Kernel4.Frame
public import proofs.«01_k».proof.Proof.Gen.Kernel5.Frame
public import proofs.«01_k».proof.Proof.Gen.Kernel4Ideal.Frame
public import proofs.«01_k».proof.Proof.Gen.Kernel5Ideal.Frame
public import Idealize.ShloMosaic.Adequacy
public import Idealize.ShloMosaic.Init

@[expose] public section

noncomputable section

open Idealize.ShloMosaic Idealize.SL.Sem

/-! The claims of the two feed-forward calls over the context tokens: the references' frames and the value claims. -/

namespace Cert.Ffn

theorem reference4_frame : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

theorem reference5_frame : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

/-- The first half-step: kernel and reference end with the same array. -/
theorem algebraic4 : Cert.algebraic_Kernel4Ideal_Reference4Ideal := by
  intro m ρ m' ρ' _ hagree
  refine ⟨fun c => (Cert.Kernel4Ideal.Gen.dats m 0 c).arrAt 5 Cert.Kernel4Ideal.cfg0.N, Cert.Kernel4Ideal.Value.run_blocks m ρ, ?_⟩
  refine (θ_run _ _ _).mono (fun _ h c => ⟨(h c).1.trans ?_, (h c).2⟩) (Cert.Reference4Ideal.Value.run (F := Ideal) m' ρ')
  obtain ⟨h0, h1, h2, h3, h4⟩ := hagree c
  refine (Cert.Reference4Ideal.Read.val_main_v55_eq m' c).trans (Eq.trans ?_ (Cert.Kernel4Ideal.Out.final m c).symm)
  rw [h0, h1, h2, h3, h4]

/-- The second half-step with the attention's output projection: kernel and reference end with the same array. -/
theorem algebraic5 : Cert.algebraic_Kernel5Ideal_Reference5Ideal := by
  intro m ρ m' ρ' _ hagree
  refine ⟨fun c => (Cert.Kernel5Ideal.Gen.dats m 0 c).arrAt 8 Cert.Kernel5Ideal.cfg0.N, Cert.Kernel5Ideal.Value.run_blocks m ρ, ?_⟩
  refine (θ_run _ _ _).mono (fun _ h c => ⟨(h c).1.trans ?_, (h c).2⟩) (Cert.Reference5Ideal.Value.run (F := Ideal) m' ρ')
  obtain ⟨h0, h1, h2, h3, h4, h5, h6, h7⟩ := hagree c
  refine (Cert.Reference5Ideal.Read.val_main_v65_eq m' c).trans (Eq.trans ?_ (Cert.Kernel5Ideal.Out.final m c).symm)
  rw [h0, h1, h2, h3, h4, h5, h6, h7]

end Cert.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_queries_and_keys_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_differential_inputs_finite
public import proofs.«01_k».proof.Proof.AttnClaims
public import proofs.«01_k».proof.Proof.DiffClaims
public import proofs.«01_k».proof.Proof.FfnClaims
public import proofs.«01_k».proof.Proof.FfnCtxClaims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_queries_and_keys_finite.Gen.facts, Cert.Pre_differential_inputs_finite.Gen.facts,
  fun m ρ _ => Cert.Kernel.Gen.frame m ρ, fun m ρ _ => Cert.KernelIdeal.Gen.frame m ρ, fun m ρ _ => Cert.KernelIdeal.Gen.frame m ρ,
  Cert.Attn.reference_frame, fun m ρ _ => Cert.Attn.reference_frame m ρ trivial,
  fun m ρ _ => Cert.Kernel2.Gen.frame m ρ, fun m ρ _ => Cert.Kernel2Ideal.Gen.frame m ρ, Cert.Ffn.reference2_frame,
  fun m ρ _ => Cert.Kernel3.Gen.frame m ρ, fun m ρ _ => Cert.Kernel3Ideal.Gen.frame m ρ, Cert.Ffn.reference3_frame,
  fun m ρ _ => Cert.Kernel4.Gen.frame m ρ, fun m ρ _ => Cert.Kernel4Ideal.Gen.frame m ρ, Cert.Ffn.reference4_frame,
  fun m ρ _ => Cert.Kernel5.Gen.frame m ρ, fun m ρ _ => Cert.Kernel5Ideal.Gen.frame m ρ, Cert.Ffn.reference5_frame,
  fun m ρ _ => Cert.Kernel6.Gen.frame m ρ, fun m ρ _ => Cert.Kernel6Ideal.Gen.frame m ρ, fun m ρ _ => Cert.Kernel6Ideal.Gen.frame m ρ,
  Cert.Attn.reference6_frame, fun m ρ _ => Cert.Attn.reference6_frame m ρ trivial,
  trivial, Cert.Attn.algebraic1, trivial, Cert.Ffn.algebraic2, trivial, Cert.Ffn.algebraic3,
  trivial, Cert.Ffn.algebraic4, trivial, Cert.Ffn.algebraic5,
  trivial, Cert.Attn.algebraic6⟩

end Cert.Proof

end
